-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Knn (m : (ℓ : Loc Cert.Knn.nD Cert.Knn.τ Cert.Knn.sig) → Buf (Elt Bits) ℓ) : Prop :=
  True

def Pre_KnnIdeal (m : (ℓ : Loc Cert.KnnIdeal.nD Cert.KnnIdeal.τ Cert.KnnIdeal.sig) → Buf (Elt Ideal) ℓ) : Prop :=
  True

def Pre_KnnIdeal_knn_pre [hPre_knn_pre : Cert.Pre_knn_pre.Facts] (m : (ℓ : Loc Cert.KnnIdeal.nD Cert.KnnIdeal.τ Cert.KnnIdeal.sig) → Buf (Elt Ideal) ℓ) : Prop :=
  ∀ c : Dev Cert.KnnIdeal.nD,
    (Cert.Pre_knn_pre.fn (F := Ideal) (m ((c.tc : Thread Cert.KnnIdeal.nD Cert.KnnIdeal.τ).loc Cert.KnnIdeal.main_arg0))) = (fun _ => 1#1)

def Pre_KnnReferenceIdeal (m : (ℓ : Loc Cert.KnnReferenceIdeal.nD Cert.KnnReferenceIdeal.τ Cert.KnnReferenceIdeal.sig) → Buf (Elt Ideal) ℓ) : Prop :=
  True

def Pre_KnnReferenceIdeal_knn_pre [hPre_knn_pre : Cert.Pre_knn_pre.Facts] (m : (ℓ : Loc Cert.KnnReferenceIdeal.nD Cert.KnnReferenceIdeal.τ Cert.KnnReferenceIdeal.sig) → Buf (Elt Ideal) ℓ) : Prop :=
  ∀ c : Dev Cert.KnnReferenceIdeal.nD,
    (Cert.Pre_knn_pre.fn (F := Ideal) (m ((c.tc : Thread Cert.KnnReferenceIdeal.nD Cert.KnnReferenceIdeal.τ).loc Cert.KnnReferenceIdeal.main_arg0))) = (fun _ => 1#1)

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmReferenceIdeal (m : (ℓ : Loc Cert.MmReferenceIdeal.nD Cert.MmReferenceIdeal.τ Cert.MmReferenceIdeal.sig) → Buf (Elt Ideal) ℓ) : Prop :=
  True

def Pre_Bn (m : (ℓ : Loc Cert.Bn.nD Cert.Bn.τ Cert.Bn.sig) → Buf (Elt Bits) ℓ) : Prop :=
  True

def Pre_BnReference (m : (ℓ : Loc Cert.BnReference.nD Cert.BnReference.τ Cert.BnReference.sig) → Buf (Elt Bits) ℓ) : Prop :=
  True

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Knn [hKnn : Cert.Knn.Facts] : Prop :=
  ∀ (m : (ℓ : Loc Cert.Knn.nD Cert.Knn.τ Cert.Knn.sig) → Buf (Elt Bits) ℓ) (g : Dev Cert.Knn.nD → PrngReg), Pre_Knn m →
    θ_run (Cert.Knn.defs (F := Bits)) (onTc (τ := Cert.Knn.τ) (Cert.Knn.main (F := Bits))) ⟨m, fun _ => 0, g⟩ (fun r => (∀ c : Dev Cert.Knn.nD,
      r.2.mem ((c.tc : Thread Cert.Knn.nD Cert.Knn.τ).loc Cert.Knn.main_arg0) = m ((c.tc : Thread Cert.Knn.nD Cert.Knn.τ).loc Cert.Knn.main_arg0))
      ∧ r.2.sem = fun _ => 0)

def quiescent_KnnIdeal [hKnnIdeal : Cert.KnnIdeal.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ r.2.sem = fun _ => 0)

def quiescent_KnnIdeal_pre_knn_pre [hKnnIdeal : Cert.KnnIdeal.Facts] [hPre_knn_pre : Cert.Pre_knn_pre.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal_knn_pre m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ r.2.sem = fun _ => 0)

def quiescent_KnnReferenceIdeal [hKnnReferenceIdeal : Cert.KnnReferenceIdeal.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0))
      ∧ r.2.sem = fun _ => 0)

def quiescent_KnnReferenceIdeal_pre_knn_pre [hKnnReferenceIdeal : Cert.KnnReferenceIdeal.Facts] [hPre_knn_pre : Cert.Pre_knn_pre.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal_knn_pre m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmReferenceIdeal [hMmReferenceIdeal : Cert.MmReferenceIdeal.Facts] : Prop :=
  ∀ (m : (ℓ : Loc Cert.MmReferenceIdeal.nD Cert.MmReferenceIdeal.τ Cert.MmReferenceIdeal.sig) → Buf (Elt Ideal) ℓ) (g : Dev Cert.MmReferenceIdeal.nD → PrngReg), Pre_MmReferenceIdeal m →
    θ_run (Cert.MmReferenceIdeal.defs (F := Ideal)) (onTc (τ := Cert.MmReferenceIdeal.τ) (Cert.MmReferenceIdeal.main (F := Ideal))) ⟨m, fun _ => 0, g⟩ (fun r => (∀ c : Dev Cert.MmReferenceIdeal.nD,
      r.2.mem ((c.tc : Thread Cert.MmReferenceIdeal.nD Cert.MmReferenceIdeal.τ).loc Cert.MmReferenceIdeal.main_arg0) = m ((c.tc : Thread Cert.MmReferenceIdeal.nD Cert.MmReferenceIdeal.τ).loc Cert.MmReferenceIdeal.main_arg0)
      ∧ r.2.mem ((c.tc : Thread Cert.MmReferenceIdeal.nD Cert.MmReferenceIdeal.τ).loc Cert.MmReferenceIdeal.main_arg1) = m ((c.tc : Thread Cert.MmReferenceIdeal.nD Cert.MmReferenceIdeal.τ).loc Cert.MmReferenceIdeal.main_arg1))
      ∧ r.2.sem = fun _ => 0)

def quiescent_Bn [hBn : Cert.Bn.Facts] : Prop :=
  ∀ (m : (ℓ : Loc Cert.Bn.nD Cert.Bn.τ Cert.Bn.sig) → Buf (Elt Bits) ℓ) (g : Dev Cert.Bn.nD → PrngReg), Pre_Bn m →
    θ_run (Cert.Bn.defs (F := Bits)) (onTc (τ := Cert.Bn.τ) (Cert.Bn.main (F := Bits))) ⟨m, fun _ => 0, g⟩ (fun r => (∀ c : Dev Cert.Bn.nD,
      r.2.mem ((c.tc : Thread Cert.Bn.nD Cert.Bn.τ).loc Cert.Bn.main_arg0) = m ((c.tc : Thread Cert.Bn.nD Cert.Bn.τ).loc Cert.Bn.main_arg0)
      ∧ r.2.mem ((c.tc : Thread Cert.Bn.nD Cert.Bn.τ).loc Cert.Bn.main_arg1) = m ((c.tc : Thread Cert.Bn.nD Cert.Bn.τ).loc Cert.Bn.main_arg1)
      ∧ r.2.mem ((c.tc : Thread Cert.Bn.nD Cert.Bn.τ).loc Cert.Bn.main_arg2) = m ((c.tc : Thread Cert.Bn.nD Cert.Bn.τ).loc Cert.Bn.main_arg2)
      ∧ r.2.mem ((c.tc : Thread Cert.Bn.nD Cert.Bn.τ).loc Cert.Bn.main_arg3) = m ((c.tc : Thread Cert.Bn.nD Cert.Bn.τ).loc Cert.Bn.main_arg3)
      ∧ r.2.mem ((c.tc : Thread Cert.Bn.nD Cert.Bn.τ).loc Cert.Bn.main_arg4) = m ((c.tc : Thread Cert.Bn.nD Cert.Bn.τ).loc Cert.Bn.main_arg4))
      ∧ r.2.sem = fun _ => 0)

def quiescent_BnReference [hBnReference : Cert.BnReference.Facts] : Prop :=
  ∀ (m : (ℓ : Loc Cert.BnReference.nD Cert.BnReference.τ Cert.BnReference.sig) → Buf (Elt Bits) ℓ) (g : Dev Cert.BnReference.nD → PrngReg), Pre_BnReference m →
    θ_run (Cert.BnReference.defs (F := Bits)) (onTc (τ := Cert.BnReference.τ) (Cert.BnReference.main (F := Bits))) ⟨m, fun _ => 0, g⟩ (fun r => (∀ c : Dev Cert.BnReference.nD,
      r.2.mem ((c.tc : Thread Cert.BnReference.nD Cert.BnReference.τ).loc Cert.BnReference.main_arg0) = m ((c.tc : Thread Cert.BnReference.nD Cert.BnReference.τ).loc Cert.BnReference.main_arg0)
      ∧ r.2.mem ((c.tc : Thread Cert.BnReference.nD Cert.BnReference.τ).loc Cert.BnReference.main_arg1) = m ((c.tc : Thread Cert.BnReference.nD Cert.BnReference.τ).loc Cert.BnReference.main_arg1)
      ∧ r.2.mem ((c.tc : Thread Cert.BnReference.nD Cert.BnReference.τ).loc Cert.BnReference.main_arg2) = m ((c.tc : Thread Cert.BnReference.nD Cert.BnReference.τ).loc Cert.BnReference.main_arg2)
      ∧ r.2.mem ((c.tc : Thread Cert.BnReference.nD Cert.BnReference.τ).loc Cert.BnReference.main_arg3) = m ((c.tc : Thread Cert.BnReference.nD Cert.BnReference.τ).loc Cert.BnReference.main_arg3)
      ∧ r.2.mem ((c.tc : Thread Cert.BnReference.nD Cert.BnReference.τ).loc Cert.BnReference.main_arg4) = m ((c.tc : Thread Cert.BnReference.nD Cert.BnReference.τ).loc Cert.BnReference.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Knn_KnnIdeal : Prop :=
  True

def algebraic_KnnIdeal_KnnReferenceIdeal_pre_knn_pre [hKnnIdeal : Cert.KnnIdeal.Facts] [hKnnReferenceIdeal : Cert.KnnReferenceIdeal.Facts] [hPre_knn_pre : Cert.Pre_knn_pre.Facts] : Prop :=
  ∀ (m : (ℓ : Loc Cert.KnnIdeal.nD Cert.KnnIdeal.τ Cert.KnnIdeal.sig) → Buf (Elt Ideal) ℓ) (g : Dev Cert.KnnIdeal.nD → PrngReg)
    (m' : (ℓ : Loc Cert.KnnReferenceIdeal.nD Cert.KnnReferenceIdeal.τ Cert.KnnReferenceIdeal.sig) → Buf (Elt Ideal) ℓ) (g' : Dev Cert.KnnReferenceIdeal.nD → PrngReg), Pre_KnnIdeal_knn_pre m →
    (∀ c : Dev Cert.KnnIdeal.nD,
      m' ((c.tc : Thread Cert.KnnReferenceIdeal.nD Cert.KnnReferenceIdeal.τ).loc Cert.KnnReferenceIdeal.main_arg0) = m ((c.tc : Thread Cert.KnnIdeal.nD Cert.KnnIdeal.τ).loc Cert.KnnIdeal.main_arg0)) →
    ∃ (v0 : (c : Dev Cert.KnnIdeal.nD) → Buf (Elt Ideal) ((c.tc : Thread Cert.KnnIdeal.nD Cert.KnnIdeal.τ).loc Cert.KnnIdeal.main_v0)),
      θ_run (Cert.KnnIdeal.defs (F := Ideal)) (onTc (τ := Cert.KnnIdeal.τ) (Cert.KnnIdeal.main (F := Ideal))) ⟨m, fun _ => 0, g⟩ (fun r => ∀ c : Dev Cert.KnnIdeal.nD,
          r.2.mem ((c.tc : Thread Cert.KnnIdeal.nD Cert.KnnIdeal.τ).loc Cert.KnnIdeal.main_v0) = v0 c
          ∧ r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ θ_run (Cert.KnnReferenceIdeal.defs (F := Ideal)) (onTc (τ := Cert.KnnReferenceIdeal.τ) (Cert.KnnReferenceIdeal.main (F := Ideal))) ⟨m', fun _ => 0, g'⟩ (fun r => ∀ c : Dev Cert.KnnReferenceIdeal.nD,
          r.2.mem ((c.tc : Thread Cert.KnnReferenceIdeal.nD Cert.KnnReferenceIdeal.τ).loc Cert.KnnReferenceIdeal.main_indices) = v0 c
          ∧ r.2.mem ((c.tc : Thread Cert.KnnReferenceIdeal.nD Cert.KnnReferenceIdeal.τ).loc Cert.KnnReferenceIdeal.main_arg0) = m' ((c.tc : Thread Cert.KnnReferenceIdeal.nD Cert.KnnReferenceIdeal.τ).loc Cert.KnnReferenceIdeal.main_arg0))

def preserves_Mm_MmIdeal : Prop :=
  True

def algebraic_MmIdeal_MmReferenceIdeal [hMmIdeal : Cert.MmIdeal.Facts] [hMmReferenceIdeal : Cert.MmReferenceIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmReferenceIdeal.nD Cert.MmReferenceIdeal.τ Cert.MmReferenceIdeal.sig) → Buf (Elt Ideal) ℓ) (g' : Dev Cert.MmReferenceIdeal.nD → PrngReg), Pre_MmIdeal m →
    (∀ c : Dev Cert.MmIdeal.nD,
      m' ((c.tc : Thread Cert.MmReferenceIdeal.nD Cert.MmReferenceIdeal.τ).loc Cert.MmReferenceIdeal.main_arg0) = m ((c.tc : Thread Cert.MmIdeal.nD Cert.MmIdeal.τ).loc Cert.MmIdeal.main_arg0)
      ∧ m' ((c.tc : Thread Cert.MmReferenceIdeal.nD Cert.MmReferenceIdeal.τ).loc Cert.MmReferenceIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v0_0)) (v1 : (c : Dev Cert.MmIdeal.nD) → Buf (Elt Ideal) ((c.tc : Thread Cert.MmIdeal.nD Cert.MmIdeal.τ).loc Cert.MmIdeal.main_v0_1)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v0_0) = v0 c
          ∧ r.2.mem ((c.tc : Thread Cert.MmIdeal.nD Cert.MmIdeal.τ).loc Cert.MmIdeal.main_v0_1) = v1 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmReferenceIdeal.defs (F := Ideal)) (onTc (τ := Cert.MmReferenceIdeal.τ) (Cert.MmReferenceIdeal.main (F := Ideal))) ⟨m', fun _ => 0, g'⟩ (fun r => ∀ c : Dev Cert.MmReferenceIdeal.nD,
          r.2.mem ((c.tc : Thread Cert.MmReferenceIdeal.nD Cert.MmReferenceIdeal.τ).loc Cert.MmReferenceIdeal.main_v0) = v0 c
          ∧ r.2.mem ((c.tc : Thread Cert.MmReferenceIdeal.nD Cert.MmReferenceIdeal.τ).loc Cert.MmReferenceIdeal.main_v7) = v1 c
          ∧ r.2.mem ((c.tc : Thread Cert.MmReferenceIdeal.nD Cert.MmReferenceIdeal.τ).loc Cert.MmReferenceIdeal.main_arg0) = m' ((c.tc : Thread Cert.MmReferenceIdeal.nD Cert.MmReferenceIdeal.τ).loc Cert.MmReferenceIdeal.main_arg0)
          ∧ r.2.mem ((c.tc : Thread Cert.MmReferenceIdeal.nD Cert.MmReferenceIdeal.τ).loc Cert.MmReferenceIdeal.main_arg1) = m' ((c.tc : Thread Cert.MmReferenceIdeal.nD Cert.MmReferenceIdeal.τ).loc Cert.MmReferenceIdeal.main_arg1))

def bitexact_Bn_BnReference [hBn : Cert.Bn.Facts] [hBnReference : Cert.BnReference.Facts] : Prop :=
  ∀ (m : (ℓ : Loc Cert.Bn.nD Cert.Bn.τ Cert.Bn.sig) → Buf (Elt Bits) ℓ) (g : Dev Cert.Bn.nD → PrngReg)
    (m' : (ℓ : Loc Cert.BnReference.nD Cert.BnReference.τ Cert.BnReference.sig) → Buf (Elt Bits) ℓ) (g' : Dev Cert.BnReference.nD → PrngReg), Pre_Bn m →
    (∀ c : Dev Cert.Bn.nD,
      m' ((c.tc : Thread Cert.BnReference.nD Cert.BnReference.τ).loc Cert.BnReference.main_arg0) = m ((c.tc : Thread Cert.Bn.nD Cert.Bn.τ).loc Cert.Bn.main_arg0)
      ∧ m' ((c.tc : Thread Cert.BnReference.nD Cert.BnReference.τ).loc Cert.BnReference.main_arg1) = m ((c.tc : Thread Cert.Bn.nD Cert.Bn.τ).loc Cert.Bn.main_arg1)
      ∧ m' ((c.tc : Thread Cert.BnReference.nD Cert.BnReference.τ).loc Cert.BnReference.main_arg2) = m ((c.tc : Thread Cert.Bn.nD Cert.Bn.τ).loc Cert.Bn.main_arg2)
      ∧ m' ((c.tc : Thread Cert.BnReference.nD Cert.BnReference.τ).loc Cert.BnReference.main_arg3) = m ((c.tc : Thread Cert.Bn.nD Cert.Bn.τ).loc Cert.Bn.main_arg3)
      ∧ m' ((c.tc : Thread Cert.BnReference.nD Cert.BnReference.τ).loc Cert.BnReference.main_arg4) = m ((c.tc : Thread Cert.Bn.nD Cert.Bn.τ).loc Cert.Bn.main_arg4)) →
    ∃ (v0 : (c : Dev Cert.Bn.nD) → Buf (Elt Bits) ((c.tc : Thread Cert.Bn.nD Cert.Bn.τ).loc Cert.Bn.main_v0_0)) (v1 : (c : Dev Cert.Bn.nD) → Buf (Elt Bits) ((c.tc : Thread Cert.Bn.nD Cert.Bn.τ).loc Cert.Bn.main_v0_1)),
      θ_run (Cert.Bn.defs (F := Bits)) (onTc (τ := Cert.Bn.τ) (Cert.Bn.main (F := Bits))) ⟨m, fun _ => 0, g⟩ (fun r => ∀ c : Dev Cert.Bn.nD,
          r.2.mem ((c.tc : Thread Cert.Bn.nD Cert.Bn.τ).loc Cert.Bn.main_v0_0) = v0 c
          ∧ r.2.mem ((c.tc : Thread Cert.Bn.nD Cert.Bn.τ).loc Cert.Bn.main_v0_1) = v1 c
          ∧ r.2.mem ((c.tc : Thread Cert.Bn.nD Cert.Bn.τ).loc Cert.Bn.main_arg0) = m ((c.tc : Thread Cert.Bn.nD Cert.Bn.τ).loc Cert.Bn.main_arg0)
          ∧ r.2.mem ((c.tc : Thread Cert.Bn.nD Cert.Bn.τ).loc Cert.Bn.main_arg1) = m ((c.tc : Thread Cert.Bn.nD Cert.Bn.τ).loc Cert.Bn.main_arg1)
          ∧ r.2.mem ((c.tc : Thread Cert.Bn.nD Cert.Bn.τ).loc Cert.Bn.main_arg2) = m ((c.tc : Thread Cert.Bn.nD Cert.Bn.τ).loc Cert.Bn.main_arg2)
          ∧ r.2.mem ((c.tc : Thread Cert.Bn.nD Cert.Bn.τ).loc Cert.Bn.main_arg3) = m ((c.tc : Thread Cert.Bn.nD Cert.Bn.τ).loc Cert.Bn.main_arg3)
          ∧ r.2.mem ((c.tc : Thread Cert.Bn.nD Cert.Bn.τ).loc Cert.Bn.main_arg4) = m ((c.tc : Thread Cert.Bn.nD Cert.Bn.τ).loc Cert.Bn.main_arg4))
      ∧ θ_run (Cert.BnReference.defs (F := Bits)) (onTc (τ := Cert.BnReference.τ) (Cert.BnReference.main (F := Bits))) ⟨m', fun _ => 0, g'⟩ (fun r => ∀ c : Dev Cert.BnReference.nD,
          r.2.mem ((c.tc : Thread Cert.BnReference.nD Cert.BnReference.τ).loc Cert.BnReference.main_v0_0) = v0 c
          ∧ r.2.mem ((c.tc : Thread Cert.BnReference.nD Cert.BnReference.τ).loc Cert.BnReference.main_v0_1) = v1 c
          ∧ r.2.mem ((c.tc : Thread Cert.BnReference.nD Cert.BnReference.τ).loc Cert.BnReference.main_arg0) = m' ((c.tc : Thread Cert.BnReference.nD Cert.BnReference.τ).loc Cert.BnReference.main_arg0)
          ∧ r.2.mem ((c.tc : Thread Cert.BnReference.nD Cert.BnReference.τ).loc Cert.BnReference.main_arg1) = m' ((c.tc : Thread Cert.BnReference.nD Cert.BnReference.τ).loc Cert.BnReference.main_arg1)
          ∧ r.2.mem ((c.tc : Thread Cert.BnReference.nD Cert.BnReference.τ).loc Cert.BnReference.main_arg2) = m' ((c.tc : Thread Cert.BnReference.nD Cert.BnReference.τ).loc Cert.BnReference.main_arg2)
          ∧ r.2.mem ((c.tc : Thread Cert.BnReference.nD Cert.BnReference.τ).loc Cert.BnReference.main_arg3) = m' ((c.tc : Thread Cert.BnReference.nD Cert.BnReference.τ).loc Cert.BnReference.main_arg3)
          ∧ r.2.mem ((c.tc : Thread Cert.BnReference.nD Cert.BnReference.τ).loc Cert.BnReference.main_arg4) = m' ((c.tc : Thread Cert.BnReference.nD Cert.BnReference.τ).loc Cert.BnReference.main_arg4))

def Claim : Prop :=
  ∃ (hKernel : Cert.Kernel.Facts) (hKernelIdeal : Cert.KernelIdeal.Facts) (hReferenceIdeal : Cert.ReferenceIdeal.Facts) (hKnn : Cert.Knn.Facts) (hKnnIdeal : Cert.KnnIdeal.Facts) (hKnnReferenceIdeal : Cert.KnnReferenceIdeal.Facts) (hMm : Cert.Mm.Facts) (hMmIdeal : Cert.MmIdeal.Facts) (hMmReferenceIdeal : Cert.MmReferenceIdeal.Facts) (hBn : Cert.Bn.Facts) (hBnReference : Cert.BnReference.Facts) (hPre_pre : Cert.Pre_pre.Facts) (hPre_knn_pre : Cert.Pre_knn_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Knn (hKnn := hKnn)
    ∧ quiescent_KnnIdeal (hKnnIdeal := hKnnIdeal)
    ∧ quiescent_KnnIdeal_pre_knn_pre (hKnnIdeal := hKnnIdeal) (hPre_knn_pre := hPre_knn_pre)
    ∧ quiescent_KnnReferenceIdeal (hKnnReferenceIdeal := hKnnReferenceIdeal)
    ∧ quiescent_KnnReferenceIdeal_pre_knn_pre (hKnnReferenceIdeal := hKnnReferenceIdeal) (hPre_knn_pre := hPre_knn_pre)
    ∧ quiescent_Mm (hMm := hMm)
    ∧ quiescent_MmIdeal (hMmIdeal := hMmIdeal)
    ∧ quiescent_MmReferenceIdeal (hMmReferenceIdeal := hMmReferenceIdeal)
    ∧ quiescent_Bn (hBn := hBn)
    ∧ quiescent_BnReference (hBnReference := hBnReference)
    ∧ preserves_Kernel_KernelIdeal
    ∧ algebraic_KernelIdeal_ReferenceIdeal (hKernelIdeal := hKernelIdeal) (hReferenceIdeal := hReferenceIdeal) (hPre_pre := hPre_pre)
    ∧ preserves_Knn_KnnIdeal
    ∧ algebraic_KnnIdeal_KnnReferenceIdeal_pre_knn_pre (hKnnIdeal := hKnnIdeal) (hKnnReferenceIdeal := hKnnReferenceIdeal) (hPre_knn_pre := hPre_knn_pre)
    ∧ preserves_Mm_MmIdeal
    ∧ algebraic_MmIdeal_MmReferenceIdeal (hMmIdeal := hMmIdeal) (hMmReferenceIdeal := hMmReferenceIdeal)
    ∧ bitexact_Bn_BnReference (hBn := hBn) (hBnReference := hBnReference)
-- ==== Pre_knn_pre.lean ====
abbrev S8x512x2048 : Shape := ⟨3, ![8, 512, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel

variable [Facts]

def fn {F : FTy → Type} [FloatOps F] (main_arg0 : FVec F S8x512x2048 .f32) : IVec S_ 1 :=
  let main_cst : FVec F S_ .f32 := constant S_ .f32 0x7F61B1E6#32
  let main_v0 : FVec F S8x512x2048 .f32 := broadcastInDim S8x512x2048 ![] bcast_S_S8x512x2048 main_cst
  let main_v1 : IVec S8x512x2048 1 := cmpf .olt main_arg0 main_v0
  let main_c : IVec S_ 1 := constantI S_ 1 1#1
  let main_v2 : IVec S_ 1 := (fun x v => Host.reduce IntOp.andi x v reducesTo_S8x512x2048_S_d0_1_2 h_S_) main_v1 main_c
  main_v2
-- ==== Pre_pre.lean ====
abbrev S32768x128 : Shape := ⟨2, ![32768, 128]⟩
abbrev S1024x64 : Shape := ⟨2, ![1024, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel

variable [Facts]

def fn {F : FTy → Type} [FloatOps F] (main_arg0 : IVec S32768x128 32) (main_arg1 : IVec S1024x64 32) : IVec S_ 1 :=
  let main_c : IVec S_ 32 := constantI S_ 32 0#32
  let main_v0 : IVec S1024x64 32 := broadcastInDim S1024x64 ![] bcast_S_S1024x64 main_c
  let main_v1 : IVec S1024x64 1 := cmpi .sge main_arg1 main_v0
  let main_c_0 : IVec S_ 32 := constantI S_ 32 32768#32
  let main_v2 : IVec S1024x64 32 := broadcastInDim S1024x64 ![] bcast_S_S1024x64 main_c_0
  let main_v3 : IVec S1024x64 1 := cmpi .slt main_arg1 main_v2
  let main_v4 : IVec S1024x64 1 := andi main_v1 main_v3
  let main_c_1 : IVec S_ 1 := constantI S_ 1 1#1
  let main_v5 : IVec S_ 1 := (fun x v => Host.reduce IntOp.andi x v reducesTo_S1024x64_S_d0_1 h_S_) main_v4 main_c_1
  main_v5
-- ==== Kernel.lean ====
abbrev S32768x128 : Shape := ⟨2, ![32768, 128]⟩
abbrev S1024x64 : Shape := ⟨2, ![1024, 64]⟩
abbrev S4096x128 : Shape := ⟨2, ![4096, 128]⟩
abbrev S32x64 : Shape := ⟨2, ![32, 64]⟩
abbrev S64x128 : Shape := ⟨2, ![64, 128]⟩
abbrev S128x128 : Shape := ⟨2, ![128, 128]⟩
abbrev S_ : Shape := ⟨0, ![]⟩
abbrev S1x64 : Shape := ⟨2, ![1, 64]⟩
abbrev S64 : Shape := ⟨1, ![64]⟩
abbrev S16 : Shape := ⟨1, ![16]⟩
abbrev S1x16 : Shape := ⟨2, ![1, 16]⟩

abbrev nBuf : Table → Nat
  | .hbm => 3
  | .local .scVector .vmem => 4
  | _ => 0

abbrev bufTy : (tb : Table) → Fin (nBuf tb) → BufTy
  | .hbm, ⟨0, _⟩ => ⟨S32768x128, .i32⟩
  | .hbm, ⟨1, _⟩ => ⟨S1024x64, .i32⟩
  | .hbm, ⟨2, _⟩ => ⟨S4096x128, .i32⟩
  | .local .scVector .vmem, ⟨0, _⟩ => ⟨S32x64, .i32⟩
  | .local .scVector .vmem, ⟨1, _⟩ => ⟨S64x128, .i32⟩
  | .local .scVector .vmem, ⟨2, _⟩ => ⟨S64x128, .i32⟩
  | .local .scVector .vmem, ⟨3, _⟩ => ⟨S128x128, .i32⟩
  | _, _ => ⟨S32768x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_10_r0 : BitVec 32 := 0#32
  ![v2.toNat, 0]
@[reducible] def k0_t1_loop : Scf.Loop 32 :=
  let c0_i32_7 : BitVec 32 := 0#32
  let c16_i32 : BitVec 32 := 16#32
  let v9 : BitVec 32 := Scalar.addi c0_i32_7 c16_i32
  let c1_i32_8 : BitVec 32 := 1#32
  ⟨c0_i32_7, v9, c1_i32_8⟩
def k0_off2 (k0_t1 : Fin k0_t1_loop.trips) : Fin 2 → Nat :=
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c0_i32_12 : BitVec 32 := 0#32
  ![v11.toNat, 0]
def k0_off3 (k0_t1 : Fin k0_t1_loop.trips) (c0_i32_15 : BitVec 32) : Fin 2 → Nat :=
  let c4_i32 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let v16 : BitVec 32 := Scalar.muli c4_i32 v11
  let v17 : BitVec 32 := Scalar.addi v16 c0_i32_15
  let v147 : Index := Scalar.indexCast v17
  let c0_67 : Index := 0#32
  ![v147.toNat, 0]
def k0_off4 (k0_t1 : Fin k0_t1_loop.trips) (c0_i32_15 : BitVec 32) : Fin 2 → Nat :=
  let c4_i32 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let v16 : BitVec 32 := Scalar.muli c4_i32 v11
  let v17 : BitVec 32 := Scalar.addi v16 c0_i32_15
  let v278 : Index := Scalar.indexCast v17
  let c16_132 : Index := 16#32
  ![v278.toNat, 16]
def k0_off5 (k0_t1 : Fin k0_t1_loop.trips) (c0_i32_15 : BitVec 32) : Fin 2 → Nat :=
  let c4_i32 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let v16 : BitVec 32 := Scalar.muli c4_i32 v11
  let v17 : BitVec 32 := Scalar.addi v16 c0_i32_15
  let v409 : Index := Scalar.indexCast v17
  let c32_197 : Index := 32#32
  ![v409.toNat, 32]
def k0_off6 (k0_t1 : Fin k0_t1_loop.trips) (c0_i32_15 : BitVec 32) : Fin 2 → Nat :=
  let c4_i32 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let v16 : BitVec 32 := Scalar.muli c4_i32 v11
  let v17 : BitVec 32 := Scalar.addi v16 c0_i32_15
  let v540 : Index := Scalar.indexCast v17
  let c48_262 : Index := 48#32
  ![v540.toNat, 48]
def k0_off7 (k0_t1 : Fin k0_t1_loop.trips) (c0_i32_15 : BitVec 32) : Fin 2 → Nat :=
  let c4_i32 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let v16 : BitVec 32 := Scalar.muli c4_i32 v11
  let v17 : BitVec 32 := Scalar.addi v16 c0_i32_15
  let v671 : Index := Scalar.indexCast v17
  let c64_327 : Index := 64#32
  ![v671.toNat, 64]
def k0_off8 (k0_t1 : Fin k0_t1_loop.trips) (c0_i32_15 : BitVec 32) : Fin 2 → Nat :=
  let c4_i32 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let v16 : BitVec 32 := Scalar.muli c4_i32 v11
  let v17 : BitVec 32 := Scalar.addi v16 c0_i32_15
  let v802 : Index := Scalar.indexCast v17
  let c80_392 : Index := 80#32
  ![v802.toNat, 80]
def k0_off9 (k0_t1 : Fin k0_t1_loop.trips) (c0_i32_15 : BitVec 32) : Fin 2 → Nat :=
  let c4_i32 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let v16 : BitVec 32 := Scalar.muli c4_i32 v11
  let v17 : BitVec 32 := Scalar.addi v16 c0_i32_15
  let v933 : Index := Scalar.indexCast v17
  let c96_457 : Index := 96#32
  ![v933.toNat, 96]
def k0_off10 (k0_t1 : Fin k0_t1_loop.trips) (c0_i32_15 : BitVec 32) : Fin 2 → Nat :=
  let c4_i32 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let v16 : BitVec 32 := Scalar.muli c4_i32 v11
  let v17 : BitVec 32 := Scalar.addi v16 c0_i32_15
  let v1064 : Index := Scalar.indexCast v17
  let c112_522 : Index := 112#32
  ![v1064.toNat, 112]
def k0_cond1 (k0_t1 : Fin k0_t1_loop.trips) : BitVec 1 :=
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c2_i32_2067 : BitVec 32 := 2#32
  let v4216 : BitVec 32 := Scalar.addi v11 c2_i32_2067
  let c32_i32_2068 : BitVec 32 := 32#32
  let v4217 : BitVec 1 := Scalar.cmpi .slt v4216 c32_i32_2068
  let v4218 : BitVec 32 := Scalar.extui v4217
  let c0_i32_2069 : BitVec 32 := 0#32
  let v4219 : BitVec 1 := Scalar.cmpi .ne v4218 c0_i32_2069
  v4219

def k0_off11 (k0_t1 : Fin k0_t1_loop.trips) : Fin 2 → Nat :=
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c2_i32_4196 : BitVec 32 := 2#32
  let v8427 : BitVec 32 := Scalar.addi v11 c2_i32_4196
  let c0_i32_4197 : BitVec 32 := 0#32
  ![v8427.toNat, 0]
def k0_off12 (k0_t1 : Fin k0_t1_loop.trips) : Fin 2 → Nat :=
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let c0_i32_2070 : BitVec 32 := 0#32
  ![v12.toNat, 0]
def k0_off13 (k0_t1 : Fin k0_t1_loop.trips) (c0_i32_2074 : BitVec 32) : Fin 2 → Nat :=
  let c4_i32_2073 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let v4223 : BitVec 32 := Scalar.muli c4_i32_2073 v12
  let v4224 : BitVec 32 := Scalar.addi v4223 c0_i32_2074
  let v4354 : Index := Scalar.indexCast v4224
  let c0_2140 : Index := 0#32
  ![v4354.toNat, 0]
def k0_off14 (k0_t1 : Fin k0_t1_loop.trips) (c0_i32_2074 : BitVec 32) : Fin 2 → Nat :=
  let c4_i32_2073 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let v4223 : BitVec 32 := Scalar.muli c4_i32_2073 v12
  let v4224 : BitVec 32 := Scalar.addi v4223 c0_i32_2074
  let v4485 : Index := Scalar.indexCast v4224
  let c16_2206 : Index := 16#32
  ![v4485.toNat, 16]
def k0_off15 (k0_t1 : Fin k0_t1_loop.trips) (c0_i32_2074 : BitVec 32) : Fin 2 → Nat :=
  let c4_i32_2073 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let v4223 : BitVec 32 := Scalar.muli c4_i32_2073 v12
  let v4224 : BitVec 32 := Scalar.addi v4223 c0_i32_2074
  let v4616 : Index := Scalar.indexCast v4224
  let c32_2272 : Index := 32#32
  ![v4616.toNat, 32]
def k0_off16 (k0_t1 : Fin k0_t1_loop.trips) (c0_i32_2074 : BitVec 32) : Fin 2 → Nat :=
  let c4_i32_2073 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let v4223 : BitVec 32 := Scalar.muli c4_i32_2073 v12
  let v4224 : BitVec 32 := Scalar.addi v4223 c0_i32_2074
  let v4747 : Index := Scalar.indexCast v4224
  let c48_2338 : Index := 48#32
  ![v4747.toNat, 48]
def k0_off17 (k0_t1 : Fin k0_t1_loop.trips) (c0_i32_2074 : BitVec 32) : Fin 2 → Nat :=
  let c4_i32_2073 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let v4223 : BitVec 32 := Scalar.muli c4_i32_2073 v12
  let v4224 : BitVec 32 := Scalar.addi v4223 c0_i32_2074
  let v4878 : Index := Scalar.indexCast v4224
  let c64_2404 : Index := 64#32
  ![v4878.toNat, 64]
def k0_off18 (k0_t1 : Fin k0_t1_loop.trips) (c0_i32_2074 : BitVec 32) : Fin 2 → Nat :=
  let c4_i32_2073 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let v4223 : BitVec 32 := Scalar.muli c4_i32_2073 v12
  let v4224 : BitVec 32 := Scalar.addi v4223 c0_i32_2074
  let v5009 : Index := Scalar.indexCast v4224
  let c80_2470 : Index := 80#32
  ![v5009.toNat, 80]
def k0_off19 (k0_t1 : Fin k0_t1_loop.trips) (c0_i32_2074 : BitVec 32) : Fin 2 → Nat :=
  let c4_i32_2073 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let v4223 : BitVec 32 := Scalar.muli c4_i32_2073 v12
  let v4224 : BitVec 32 := Scalar.addi v4223 c0_i32_2074
  let v5140 : Index := Scalar.indexCast v4224
  let c96_2536 : Index := 96#32
  ![v5140.toNat, 96]
def k0_off20 (k0_t1 : Fin k0_t1_loop.trips) (c0_i32_2074 : BitVec 32) : Fin 2 → Nat :=
  let c4_i32_2073 : BitVec 32 := 4#32
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let v4223 : BitVec 32 := Scalar.muli c4_i32_2073 v12
  let v4224 : BitVec 32 := Scalar.addi v4223 c0_i32_2074
  let v5271 : Index := Scalar.indexCast v4224
  let c112_2602 : Index := 112#32
  ![v5271.toNat, 112]
def k0_cond2 (k0_t1 : Fin k0_t1_loop.trips) : BitVec 1 :=
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let c2_i32_4193 : BitVec 32 := 2#32
  let v8423 : BitVec 32 := Scalar.addi v12 c2_i32_4193
  let c32_i32_4194 : BitVec 32 := 32#32
  let v8424 : BitVec 1 := Scalar.cmpi .slt v8423 c32_i32_4194
  let v8425 : BitVec 32 := Scalar.extui v8424
  let c0_i32_4195 : BitVec 32 := 0#32
  let v8426 : BitVec 1 := Scalar.cmpi .ne v8425 c0_i32_4195
  v8426

def k0_off21 (k0_t1 : Fin k0_t1_loop.trips) : Fin 2 → Nat :=
  let c2_i32_10 : BitVec 32 := 2#32
  let c0_i32_7 : BitVec 32 := 0#32
  let c1_i32_8 : BitVec 32 := 1#32
  let arg11 : BitVec 32 := Scf.iv c0_i32_7 c1_i32_8 k0_t1
  let v11 : BitVec 32 := Scalar.muli c2_i32_10 arg11
  let c1_i32_11 : BitVec 32 := 1#32
  let v12 : BitVec 32 := Scalar.addi v11 c1_i32_11
  let c2_i32_4196 : BitVec 32 := 2#32
  let v8427 : BitVec 32 := Scalar.addi v12 c2_i32_4196
  let c0_i32_4197 : BitVec 32 := 0#32
  ![v8427.toNat, 0]
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v10 : BitVec 32 := Scalar.muli v1 c128_i32
  let c0_i32_10_r1 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x128 : Shape := ⟨2, ![32768, 128]⟩
abbrev S1024x64 : Shape := ⟨2, ![1024, 64]⟩
abbrev S4096x16 : Shape := ⟨2, ![4096, 16]⟩
abbrev S_ : Shape := ⟨0, ![]⟩
abbrev S4096x16x1 : Shape := ⟨3, ![4096, 16, 1]⟩
abbrev S1 : Shape := ⟨1, ![1]⟩
abbrev S1x1x1 : Shape := ⟨3, ![1, 1, 1]⟩
abbrev S4096x16x128 : Shape := ⟨3, ![4096, 16, 128]⟩
abbrev S4096x128 : Shape := ⟨2, ![4096, 128]⟩

abbrev nBuf : Space → Nat
  | .hbm => 40
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S1024x64, .i32⟩
  | .hbm, ⟨2, _⟩ => ⟨S4096x16, .i32⟩
  | .hbm, ⟨3, _⟩ => ⟨S_, .i32⟩
  | .hbm, ⟨4, _⟩ => ⟨S4096x16, .i32⟩
  | .hbm, ⟨5, _⟩ => ⟨S4096x16, .i1⟩
  | .hbm, ⟨6, _⟩ => ⟨S_, .i32⟩
  | .hbm, ⟨7, _⟩ => ⟨S4096x16, .i32⟩
  | .hbm, ⟨8, _⟩ => ⟨S4096x16, .i32⟩
  | .hbm, ⟨9, _⟩ => ⟨S4096x16, .i32⟩
  | .hbm, ⟨10, _⟩ => ⟨S4096x16x1, .i32⟩
  | .hbm, ⟨11, _⟩ => ⟨S1, .i32⟩
  | .hbm, ⟨12, _⟩ => ⟨S_, .i32⟩
  | .hbm, ⟨13, _⟩ => ⟨S4096x16x1, .i32⟩
  | .hbm, ⟨14, _⟩ => ⟨S4096x16x1, .i1⟩
  | .hbm, ⟨15, _⟩ => ⟨S1x1x1, .i32⟩
  | .hbm, ⟨16, _⟩ => ⟨S4096x16x1, .i32⟩
  | .hbm, ⟨17, _⟩ => ⟨S4096x16x1, .i1⟩
  | .hbm, ⟨18, _⟩ => ⟨S4096x16x1, .i1⟩
  | .hbm, ⟨19, _⟩ => ⟨S_, .i1⟩
  | .hbm, ⟨20, _⟩ => ⟨S4096x16, .i1⟩
  | .hbm, ⟨21, _⟩ => ⟨S4096x16x128, .i32⟩
  | .hbm, ⟨22, _⟩ => ⟨S4096x16x128, .i1⟩
  | .hbm, ⟨23, _⟩ => ⟨S_, .i32⟩
  | .hbm, ⟨24, _⟩ => ⟨S4096x16x128, .i32⟩
  | .hbm, ⟨25, _⟩ => ⟨S4096x16x128, .i32⟩
  | .hbm, ⟨26, _⟩ => ⟨S_, .i32⟩
  | .hbm, ⟨27, _⟩ => ⟨S4096x16x128, .i32⟩
  | .hbm, ⟨28, _⟩ => ⟨S4096x16x128, .i32⟩
  | .hbm, ⟨29, _⟩ => ⟨S_, .i32⟩
  | .hbm, ⟨30, _⟩ => ⟨S4096x128, .i32⟩
  | .hbm, ⟨31, _⟩ => ⟨S_, .i32⟩
  | .hbm, ⟨32, _⟩ => ⟨S4096x16x128, .i32⟩
  | .hbm, ⟨33, _⟩ => ⟨S4096x16x128, .i32⟩
  | .hbm, ⟨34, _⟩ => ⟨S_, .i32⟩
  | .hbm, ⟨35, _⟩ => ⟨S4096x128, .i32⟩
  | .hbm, ⟨36, _⟩ => ⟨S_, .i32⟩
  | .hbm, ⟨37, _⟩ => ⟨S4096x128, .i32⟩
  | .hbm, ⟨38, _⟩ => ⟨S4096x128, .i32⟩
  | .hbm, ⟨39, _⟩ => ⟨S4096x128, .i32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_c_4 : Ref sig .tc := ⟨.hbm, 23, rfl⟩
abbrev main_call0_v15 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_v7 : Ref sig .tc := ⟨.hbm, 35, rfl⟩
abbrev main_c_3 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩

abbrev nD : Nat := 1
abbrev τ : Topo := Topo.v7x

variable {F : FTy → Type} [FloatOps F]
-- ==== Knn.lean ====
abbrev S8x512x2048 : Shape := ⟨3, ![8, 512, 2048]⟩
abbrev S8x512x16 : Shape := ⟨3, ![8, 512, 16]⟩
abbrev S1x512x2048 : Shape := ⟨3, ![1, 512, 2048]⟩
abbrev S1x512x16 : Shape := ⟨3, ![1, 512, 16]⟩
abbrev S512x2048 : Shape := ⟨2, ![512, 2048]⟩
abbrev S512 : Shape := ⟨1, ![512]⟩
abbrev S512x1 : Shape := ⟨2, ![512, 1]⟩
abbrev S512x16 : Shape := ⟨2, ![512, 16]⟩

abbrev nBuf : Space → Nat
  | .hbm => 2
  | .vmem => 4
  | .smem => 0
  | _ => 0

abbrev bufTy : (tb : Table) → Fin (tcTables nBuf tb) → BufTy
  | .hbm, ⟨0, _⟩ => ⟨S8x512x2048, .f32⟩
  | .hbm, ⟨1, _⟩ => ⟨S8x512x16, .i32⟩
  | .local _ .vmem, ⟨0, _⟩ => ⟨S1x512x2048, .f32⟩
  | .local _ .vmem, ⟨1, _⟩ => ⟨S1x512x2048, .f32⟩
  | .local _ .vmem, ⟨2, _⟩ => ⟨S1x512x16, .i32⟩
  | .local _ .vmem, ⟨3, _⟩ => ⟨S1x512x16, .i32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KnnReferenceIdeal.lean ====
abbrev S8x512x2048 : Shape := ⟨3, ![8, 512, 2048]⟩
abbrev S8x512x16 : Shape := ⟨3, ![8, 512, 16]⟩

abbrev nBuf : Space → Nat
  | .hbm => 4
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x512x16, .f32⟩
  | .hbm, ⟨3, _⟩ => ⟨S8x512x16, .i32⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩

abbrev nD : Nat := 1
abbrev τ : Topo := Topo.v7x

variable {F : FTy → Type} [FloatOps F]
-- ==== Mm.lean ====
abbrev S16x2048x256 : Shape := ⟨3, ![16, 2048, 256]⟩
abbrev S256x256 : Shape := ⟨2, ![256, 256]⟩
abbrev S8x256 : Shape := ⟨2, ![8, 256]⟩
abbrev S1x2048x256 : Shape := ⟨3, ![1, 2048, 256]⟩
abbrev S2048x256 : Shape := ⟨2, ![2048, 256]⟩
abbrev S256 : Shape := ⟨1, ![256]⟩
abbrev S1x256 : Shape := ⟨2, ![1, 256]⟩
abbrev S6x256 : Shape := ⟨2, ![6, 256]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S256x256, .f32⟩
  | .hbm, ⟨2, _⟩ => ⟨S16x2048x256, .f32⟩
  | .hbm, ⟨3, _⟩ => ⟨S8x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S1x2048x256, .f32⟩
  | .local _ .vmem, ⟨4, _⟩ => ⟨S1x2048x256, .f32⟩
  | .local _ .vmem, ⟨5, _⟩ => ⟨S8x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MmReferenceIdeal.lean ====
abbrev S16x2048x256 : Shape := ⟨3, ![16, 2048, 256]⟩
abbrev S256x256 : Shape := ⟨2, ![256, 256]⟩
abbrev S_ : Shape := ⟨0, ![]⟩
abbrev S256 : Shape := ⟨1, ![256]⟩
abbrev S1x256 : Shape := ⟨2, ![1, 256]⟩
abbrev S6x256 : Shape := ⟨2, ![6, 256]⟩
abbrev S8x256 : Shape := ⟨2, ![8, 256]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S256x256, .f32⟩
  | .hbm, ⟨2, _⟩ => ⟨S16x2048x256, .f32⟩
  | .hbm, ⟨3, _⟩ => ⟨S_, .f32⟩
  | .hbm, ⟨4, _⟩ => ⟨S256, .f32⟩
  | .hbm, ⟨5, _⟩ => ⟨S16x2048x256, .f32⟩
  | .hbm, ⟨6, _⟩ => ⟨S_, .f32⟩
  | .hbm, ⟨7, _⟩ => ⟨S256, .f32⟩
  | .hbm, ⟨8, _⟩ => ⟨S1x256, .f32⟩
  | .hbm, ⟨9, _⟩ => ⟨S1x256, .f32⟩
  | .hbm, ⟨10, _⟩ => ⟨S_, .f32⟩
  | .hbm, ⟨11, _⟩ => ⟨S6x256, .f32⟩
  | .hbm, ⟨12, _⟩ => ⟨S8x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Bn.lean ====
abbrev S16x2048x256 : Shape := ⟨3, ![16, 2048, 256]⟩
abbrev S8x256 : Shape := ⟨2, ![8, 256]⟩
abbrev S1x256 : Shape := ⟨2, ![1, 256]⟩
abbrev S256x256 : Shape := ⟨2, ![256, 256]⟩
abbrev S16x2048x128 : Shape := ⟨3, ![16, 2048, 128]⟩
abbrev S1x2048x256 : Shape := ⟨3, ![1, 2048, 256]⟩
abbrev S1x2048x128 : Shape := ⟨3, ![1, 2048, 128]⟩
abbrev S2048x256 : Shape := ⟨2, ![2048, 256]⟩
abbrev S2048x128 : Shape := ⟨2, ![2048, 128]⟩
abbrev S256 : Shape := ⟨1, ![256]⟩
abbrev S6x256 : Shape := ⟨2, ![6, 256]⟩

abbrev nBuf : Space → Nat
  | .hbm => 7
  | .vmem => 9
  | .smem => 0
  | _ => 0

abbrev bufTy : (tb : Table) → Fin (tcTables nBuf tb) → BufTy
  | .hbm, ⟨0, _⟩ => ⟨S16x2048x256, .f32⟩
  | .hbm, ⟨1, _⟩ => ⟨S8x256, .f32⟩
  | .hbm, ⟨2, _⟩ => ⟨S1x256, .f32⟩
  | .hbm, ⟨3, _⟩ => ⟨S1x256, .f32⟩
  | .hbm, ⟨4, _⟩ => ⟨S256x256, .f32⟩
  | .hbm, ⟨5, _⟩ => ⟨S16x2048x128, .i32⟩
  | .hbm, ⟨6, _⟩ => ⟨S8x256, .f32⟩
  | .local _ .vmem, ⟨0, _⟩ => ⟨S1x2048x256, .f32⟩
  | .local _ .vmem, ⟨1, _⟩ => ⟨S1x2048x256, .f32⟩
  | .local _ .vmem, ⟨2, _⟩ => ⟨S8x256, .f32⟩
  | .local _ .vmem, ⟨3, _⟩ => ⟨S1x256, .f32⟩
  | .local _ .vmem, ⟨4, _⟩ => ⟨S1x256, .f32⟩
  | .local _ .vmem, ⟨5, _⟩ => ⟨S256x256, .f32⟩
  | .local _ .vmem, ⟨6, _⟩ => ⟨S1x2048x128, .i32⟩
  | .local _ .vmem, ⟨7, _⟩ => ⟨S1x2048x128, .i32⟩
  | .local _ .vmem, ⟨8, _⟩ => ⟨S8x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BnReference.lean ====
abbrev S16x2048x256 : Shape := ⟨3, ![16, 2048, 256]⟩
abbrev S8x256 : Shape := ⟨2, ![8, 256]⟩
abbrev S1x256 : Shape := ⟨2, ![1, 256]⟩
abbrev S256x256 : Shape := ⟨2, ![256, 256]⟩
abbrev S16x2048x128 : Shape := ⟨3, ![16, 2048, 128]⟩
abbrev S1x2048x256 : Shape := ⟨3, ![1, 2048, 256]⟩
abbrev S2048x256 : Shape := ⟨2, ![2048, 256]⟩
abbrev S2048x128 : Shape := ⟨2, ![2048, 128]⟩
abbrev S1x2048x128 : Shape := ⟨3, ![1, 2048, 128]⟩
abbrev S256 : Shape := ⟨1, ![256]⟩
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x2048x256, .f32⟩
  | .hbm, ⟨1, _⟩ => ⟨S8x256, .f32⟩
  | .hbm, ⟨2, _⟩ => ⟨S1x256, .f32⟩
  | .hbm, ⟨3, _⟩ => ⟨S1x256, .f32⟩
  | .hbm, ⟨4, _⟩ => ⟨S256x256, .f32⟩
  | .hbm, ⟨5, _⟩ => ⟨S16x2048x128, .i32⟩
  | .hbm, ⟨6, _⟩ => ⟨S8x256, .f32⟩
  | .local _ .vmem, ⟨0, _⟩ => ⟨S16x2048x256, .f32⟩
  | .local _ .vmem, ⟨1, _⟩ => ⟨S8x256, .f32⟩
  | .local _ .vmem, ⟨2, _⟩ => ⟨S1x256, .f32⟩
  | .local _ .vmem, ⟨3, _⟩ => ⟨S1x256, .f32⟩
  | .local _ .vmem, ⟨4, _⟩ => ⟨S256x256, .f32⟩
  | .local _ .vmem, ⟨5, _⟩ => ⟨S16x2048x128, .i32⟩
  | .local _ .vmem, ⟨6, _⟩ => ⟨S8x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v12 : Index := Scalar.indexCast arg7
  let c0_7 : Index := 0#32
  let c0_8 : Index := 0#32
  ![v12.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v48 : Index := Scalar.indexCast arg7
  let c0_22 : Index := 0#32
  let c0_23 : Index := 0#32
  ![v48.toNat, 0, 0]
abbrev stage0_0 : Fin 1 → Memref sig .tc .vmem S16x2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2048x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Pool.Shape.lean ====
/-
  The SparseCore pooling body written as a structure: the printed body, whose pooling loops are unrolled, is the
  program `outer` below around the trip `trip`, in which the unrolled loops are folds over lists.
-/
module

public import proofs.«01_k».proof.KernelIdeal
public import proofs.«01_k».proof.Proof.Gen.KernelIdeal
public import Idealize.ShloMosaic.Lib.SparseCore.Ops
public import Idealize.ShloMosaic.Lib.SparseCore.Stream

@[expose] public section

noncomputable section

namespace Cert.Proof.Pool

open Cert.KernelIdeal Cert.KernelIdeal.Gen
open Idealize.ShloMosaic Idealize.SL.Sem

variable {F : FTy → Type} [FloatOps F]

/-- A program of the tile at grid coordinates `i`. -/
abbrev TileProg (F : FTy → Type) (i : grid0.Coords) : Type 1 :=
  Prog (TpuEff nD τ sig (Elt F) Λ₀ (.scVector ((i 0).castLE hcore0) ((i 1).castLE hsub0))) PUnit

/-- Sixteen words of row `r`, from column `16 c`, lie inside the row buffer. -/
theorem rowInb {r c : ℕ} (hr : r < 64) (hc : c < 8) : ∀ a, (![r, 16 * c] : Fin 2 → ℕ) a + S1x16.size a ≤ S64x128.size a := by
  intro a
  match a with
  | 0 => show r + 1 ≤ 64; omega
  | 1 => show 16 * c + 16 ≤ 128; omega

/-- The low halves of sixteen words. -/
def lo16 (w : Vec F S1x16 .i32) : IVec S16 32 := andi (shapeCast S16 w shapeCasts_S1x16_S16) (broadcast S16 65535#32)
/-- The high halves of sixteen words. -/
def hi16 (w : Vec F S1x16 .i32) : IVec S16 32 := shrui (shapeCast S16 w shapeCasts_S1x16_S16) (broadcast S16 16#32)

variable {i : grid0.Coords}

/-- Load sixteen words of row `r` of the row buffer, from column `16 c`. -/
abbrev loadRow (rows : Memref sig .scVector .vmem S64x128 .i32) (r c : ℕ) (hr : r < 64) (hc : c < 8)
    (k : (S1x16.Idx → Elt F .i32) → TileProg F i) : TileProg F i :=
  .op (.load rows (Rect.unit (s := S64x128) ![r, 16 * c] S1x16.size (rowInb hr hc)).toLoadRect (View.loadsAt_vmem h_S1x16)) k

/-- Fold the maximum of the halves over `n` further rows, from row `r`. -/
def foldRows (rows : Memref sig .scVector .vmem S64x128 .i32) (c : ℕ) (hc : c < 8) :
    (n r : ℕ) → (h : r + n ≤ 64) → IVec S16 32 → IVec S16 32 → (IVec S16 32 → IVec S16 32 → TileProg F i) → TileProg F i
  | 0, _, _, lo, hi, k => k lo hi
  | n + 1, r, h, lo, hi, k => loadRow rows r c (by omega) hc fun w =>
      foldRows rows c hc n (r + 1) (by omega) (maxui lo (lo16 w)) (maxui hi (hi16 w)) k

/-- One chunk of pooling: sixteen rows from row `r`, sixteen columns from column `16 c`, and where their maximum goes. -/
structure Chunk where
  r : ℕ
  c : ℕ
  hr : r + 16 ≤ 64
  hc : c < 8
  off : Fin 2 → ℕ
  inb : ∀ a, off a + S1x16.size a ≤ S128x128.size a

/-- Where a chunk's maximum goes. -/
abbrev Chunk.rect (x : Chunk) : Rect S128x128 := Rect.unit (s := S128x128) x.off S1x16.size x.inb

/-- Pool a list of chunks, one after the other. -/
def pool (rows : Memref sig .scVector .vmem S64x128 .i32) (out : Memref sig .scVector .vmem S128x128 .i32) :
    List Chunk → TileProg F i → TileProg F i
  | [], k => k
  | x :: l, k => loadRow rows x.r x.c (by have := x.hr; omega) x.hc fun w =>
      foldRows rows x.c x.hc 15 (x.r + 1) (by have := x.hr; omega) (lo16 w) (hi16 w) fun lo hi =>
        .op (.load out x.rect.toLoadRect (View.loadsAt_vmem h_S1x16)) fun _ =>
          .op (.store out x.rect (shapeCast S1x16 (ori lo (shli hi (broadcast S16 16#32))) shapeCasts_S16_S1x16) Finset.univ
            (View.stores_vmem_bits_univ h_S1x16 rfl) (.inl rfl)) fun _ => pool rows out l k

/-- The offsets a trip stores the first buffer's chunks at. -/
def offA (t : Fin k0_t1_loop.trips) : Fin 8 → BitVec 32 → Fin 2 → ℕ
  | 0 => k0_off3 t | 1 => k0_off4 t | 2 => k0_off5 t | 3 => k0_off6 t
  | 4 => k0_off7 t | 5 => k0_off8 t | 6 => k0_off9 t | 7 => k0_off10 t
/-- The offsets a trip stores the second buffer's chunks at. -/
def offB (t : Fin k0_t1_loop.trips) : Fin 8 → BitVec 32 → Fin 2 → ℕ
  | 0 => k0_off13 t | 1 => k0_off14 t | 2 => k0_off15 t | 3 => k0_off16 t
  | 4 => k0_off17 t | 5 => k0_off18 t | 6 => k0_off19 t | 7 => k0_off20 t

theorem offA_eq (t : Fin k0_t1_loop.trips) (c : Fin 8) (r : Fin 4) : offA t c (BitVec.ofNat 32 r.val) = ![8 * t.val + r.val, 16 * c.val] := by
  fin_cases c
  · exact k0_off3_eq t r
  · exact k0_off4_eq t r
  · exact k0_off5_eq t r
  · exact k0_off6_eq t r
  · exact k0_off7_eq t r
  · exact k0_off8_eq t r
  · exact k0_off9_eq t r
  · exact k0_off10_eq t r
theorem offB_eq (t : Fin k0_t1_loop.trips) (c : Fin 8) (r : Fin 4) : offB t c (BitVec.ofNat 32 r.val) = ![8 * t.val + r.val + 4, 16 * c.val] := by
  fin_cases c
  · exact k0_off13_eq t r
  · exact k0_off14_eq t r
  · exact k0_off15_eq t r
  · exact k0_off16_eq t r
  · exact k0_off17_eq t r
  · exact k0_off18_eq t r
  · exact k0_off19_eq t r
  · exact k0_off20_eq t r

theorem trips_le (t : Fin k0_t1_loop.trips) : t.val < 16 := lt_of_lt_of_le t.isLt k0_t1_abs.2.1

theorem outInb {a b : ℕ} (ha : a < 128) (hb : b < 8) : ∀ x, (![a, 16 * b] : Fin 2 → ℕ) x + S1x16.size x ≤ S128x128.size x := by
  intro x
  match x with
  | 0 => show a + 1 ≤ 128; omega
  | 1 => show 16 * b + 16 ≤ 128; omega

theorem offA_inb (t : Fin k0_t1_loop.trips) (c : Fin 8) (r : Fin 4) : ∀ a, offA t c (BitVec.ofNat 32 r.val) a + S1x16.size a ≤ S128x128.size a := by
  have := trips_le t
  rw [offA_eq]; exact outInb (by omega) c.isLt
theorem offB_inb (t : Fin k0_t1_loop.trips) (c : Fin 8) (r : Fin 4) : ∀ a, offB t c (BitVec.ofNat 32 r.val) a + S1x16.size a ≤ S128x128.size a := by
  have := trips_le t
  rw [offB_eq]; exact outInb (by omega) c.isLt

/-- Chunk `c` of query `r` of the first buffer. -/
abbrev chunkA (t : Fin k0_t1_loop.trips) (r : Fin 4) (c : Fin 8) : Chunk :=
  ⟨16 * r.val, c.val, by omega, c.isLt, offA t c (BitVec.ofNat 32 r.val), offA_inb t c r⟩
/-- Chunk `c` of query `r` of the second buffer. -/
abbrev chunkB (t : Fin k0_t1_loop.trips) (r : Fin 4) (c : Fin 8) : Chunk :=
  ⟨16 * r.val, c.val, by omega, c.isLt, offB t c (BitVec.ofNat 32 r.val), offB_inb t c r⟩

/-- Every query and every column block, query by query. -/
def cells : List (Fin 4 × Fin 8) := List.flatMap (fun r => [(r, 0), (r, 1), (r, 2), (r, 3), (r, 4), (r, 5), (r, 6), (r, 7)]) [0, 1, 2, 3]

theorem mem_cells (p : Fin 4 × Fin 8) : p ∈ cells := by
  revert p; decide

/-- The chunks pooled from the first buffer at trip `t`. -/
def chunksA (t : Fin k0_t1_loop.trips) : List Chunk := cells.map fun p => chunkA t p.1 p.2
/-- The chunks pooled from the second buffer at trip `t`. -/
def chunksB (t : Fin k0_t1_loop.trips) : List Chunk := cells.map fun p => chunkB t p.1 p.2

/-- A row of the index block, as the list a gather reads. -/
abbrev listAt (idx : Memref sig .scVector .vmem S32x64 .i32) (off : Fin 2 → ℕ) (h : ∀ a, off a + S1x64.size a ≤ S32x64.size a) :
    Memref sig .scVector .vmem S64 .i32 :=
  (idx.slice (Rect.unit (s := S32x64) off S1x64.size h) (fun _ => rfl)).squeeze S64 squeezes_S1x64_S64
/-- All of the table, as a gather addresses it. -/
abbrev tableAll (tbl : Memref sig .scVector .hbm S32768x128 .i32) : Memref sig .scVector .hbm S32768x128 .i32 :=
  tbl.slice (Rect.unit (s := S32768x128) ![0, 0] S32768x128.size inb_S32768x128_S32768x128_0_0) (fun _ => rfl)

/-- Start the gather of the rows a list names into a row buffer. -/
abbrev gather (tbl : Memref sig .scVector .hbm S32768x128 .i32) (rows : Memref sig .scVector .vmem S64x128 .i32)
    (l : Memref sig .scVector .vmem S64 .i32) (s : DmaSems sig S_) (k : PUnit → TileProg F i) : TileProg F i :=
  SparseCore.enqueueIndirectGather (F := F) (nD := nD) (τ := τ) (p := .scVector ((i 0).castLE hcore0) ((i 1).castLE hsub0)) rfl (tableAll tbl) rows gathers_S32768x128_S64x128 l rfl s.sem (View.wordExact_bits rfl) rfl (Or.inl rfl) >>= k
/-- Wait for the gather into a row buffer. -/
abbrev await (tbl : Memref sig .scVector .hbm S32768x128 .i32) (rows : Memref sig .scVector .vmem S64x128 .i32) (hr : rows.IsWhole)
    (s : DmaSems sig S_) (k : PUnit → TileProg F i) : TileProg F i :=
  .op (.waitDma2 s.sem (tableAll tbl) rows (View.wordExact_bits rfl) hr.wordExact) k

/-- Peel the first load of a chunk. -/
theorem eq_first {rows : Memref sig .scVector .vmem S64x128 .i32} {out : Memref sig .scVector .vmem S128x128 .i32} {x : Chunk} {l : List Chunk}
    {k : TileProg F i} {K : (S1x16.Idx → Elt F .i32) → TileProg F i}
    (h : ∀ w, (foldRows rows x.c x.hc 15 (x.r + 1) (by have := x.hr; omega) (lo16 w) (hi16 w) fun lo hi =>
        .op (.load out x.rect.toLoadRect (View.loadsAt_vmem h_S1x16)) fun _ =>
          .op (.store out x.rect (shapeCast S1x16 (ori lo (shli hi (broadcast S16 16#32))) shapeCasts_S16_S1x16) Finset.univ
            (View.stores_vmem_bits_univ h_S1x16 rfl) (.inl rfl)) fun _ => pool rows out l k) = K w) :
    pool rows out (x :: l) k = loadRow rows x.r x.c (by have := x.hr; omega) x.hc K :=
  congrArg (Prog.op _) (funext h)

/-- Peel a further load of a chunk. -/
theorem eq_row {rows : Memref sig .scVector .vmem S64x128 .i32} {c : ℕ} {hc : c < 8} {n r : ℕ} {hr : r + (n + 1) ≤ 64} {lo hi : IVec S16 32}
    {k : IVec S16 32 → IVec S16 32 → TileProg F i} {K : (S1x16.Idx → Elt F .i32) → TileProg F i}
    (h : ∀ w, foldRows rows c hc n (r + 1) (by omega) (maxui lo (lo16 w)) (maxui hi (hi16 w)) k = K w) :
    foldRows rows c hc (n + 1) r hr lo hi k = loadRow rows r c (by omega) hc K :=
  congrArg (Prog.op _) (funext h)

/-- Peel the store that ends a chunk. -/
theorem eq_last {rows : Memref sig .scVector .vmem S64x128 .i32} {out : Memref sig .scVector .vmem S128x128 .i32} {x : Chunk} {l : List Chunk}
    {r : ℕ} {hr : r + 0 ≤ 64} {lo hi : IVec S16 32} {k : TileProg F i} {K : (S1x16.Idx → Elt F .i32) → PUnit → TileProg F i} {v : S1x16.Idx → Elt F .i32}
    (hv : shapeCast S1x16 (ori lo (shli hi (broadcast S16 16#32))) shapeCasts_S16_S1x16 = v) (h : ∀ u, pool rows out l k = K u ⟨⟩) :
    (foldRows (F := F) (i := i) rows x.c x.hc 0 r hr lo hi fun lo hi =>
        .op (.load out x.rect.toLoadRect (View.loadsAt_vmem h_S1x16)) fun _ =>
          .op (.store out x.rect (shapeCast S1x16 (ori lo (shli hi (broadcast S16 16#32))) shapeCasts_S16_S1x16) Finset.univ
            (View.stores_vmem_bits_univ h_S1x16 rfl) (.inl rfl)) fun _ => pool rows out l k)
      = (.op (.load out x.rect.toLoadRect (View.loadsAt_vmem h_S1x16)) fun u =>
        .op (.store out x.rect v Finset.univ (View.stores_vmem_bits_univ h_S1x16 rfl) (.inl rfl)) fun u' => K u u') := by
  subst hv; exact congrArg (Prog.op _) (funext fun u => congrArg (Prog.op _) (funext fun _ => h u))

section
variable (i : grid0.Coords) (arg2 : Memref sig .scVector .hbm S32768x128 .i32) (harg2 : arg2.IsWhole) (arg3 : Memref sig .scVector .hbm S1024x64 .i32) (harg3 : arg3.IsWhole) (arg4 : Memref sig .scVector .hbm S4096x128 .i32) (harg4 : arg4.IsWhole) (arg5 : Memref sig .scVector .vmem S32x64 .i32) (harg5 : arg5.IsWhole) (arg6 : Memref sig .scVector .vmem S64x128 .i32) (harg6 : arg6.IsWhole) (arg7 : Memref sig .scVector .vmem S64x128 .i32) (harg7 : arg7.IsWhole) (arg8 : Memref sig .scVector .vmem S128x128 .i32) (harg8 : arg8.IsWhole) (arg9 : DmaSems sig S_) (arg10 : DmaSems sig S_) (r0 : DmaSems sig S_) (r1 : DmaSems sig S_)

/-- One trip: wait for the first buffer, pool it, start its next gather; the same for the second buffer. -/
def trip (t : Fin k0_t1_loop.trips) : TileProg F i :=
  await arg2 arg6 harg6 arg9 fun _ => pool arg6 arg8 (chunksA t)
    (if h1 : k0_cond1 t = 1#1 then
      gather arg2 arg6 (listAt arg5 (k0_off11 t) (k0_off11_inb t h1)) arg9 fun _ =>
        await arg2 arg7 harg7 arg10 fun _ => pool arg7 arg8 (chunksB t)
          (if h2 : k0_cond2 t = 1#1 then
            gather arg2 arg7 (listAt arg5 (k0_off21 t) (k0_off21_inb t h2)) arg10 fun _ => .ret ⟨⟩
          else .ret ⟨⟩)
    else
      await arg2 arg7 harg7 arg10 fun _ => pool arg7 arg8 (chunksB t)
        (if h2 : k0_cond2 t = 1#1 then
          gather arg2 arg7 (listAt arg5 (k0_off21 t) (k0_off21_inb t h2)) arg10 fun _ => .ret ⟨⟩
        else .ret ⟨⟩))

/-- What surrounds the loop: the copy in of the index block, the first two gathers, and the copy out. -/
def outer (b : Fin k0_t1_loop.trips → PUnit → TileProg F i) : TileProg F i :=
  .op (.enqueueDma (arg3.slice (Rect.unit (s := S1024x64) (k0_off1 i) S32x64.size (k0_off1_inb i)) (fun _ => rfl)) (.here arg5) (.dma r0.sem) (View.wordExact_bits rfl) harg5.wordExact ⟨Or.inl rfl, trivial⟩) fun _ =>
  .op (.waitDma2 r0.sem (arg3.slice (Rect.unit (s := S1024x64) (k0_off1 i) S32x64.size (k0_off1_inb i)) (fun _ => rfl)) arg5 (View.wordExact_bits rfl) harg5.wordExact) fun _ =>
  gather arg2 arg6 (listAt arg5 ![0, 0] inb_S32x64_S1x64_0_0) arg9 fun _ =>
  gather arg2 arg7 (listAt arg5 ![1, 0] inb_S32x64_S1x64_1_0) arg10 fun _ =>
  Scf.Loop.for k0_t1_loop k0_t1_ok ⟨⟩ b >>= fun _ =>
  .op (.enqueueDma arg8 (.here (arg4.slice (Rect.unit (s := S4096x128) (k0_off22 i) S128x128.size (k0_off22_inb i)) (fun _ => rfl))) (.dma r1.sem) harg8.wordExact (View.wordExact_bits rfl) ⟨Or.inl rfl, trivial⟩) fun _ =>
  .op (.waitDma2 r1.sem arg8 (arg4.slice (Rect.unit (s := S4096x128) (k0_off22 i) S128x128.size (k0_off22_inb i)) (fun _ => rfl)) harg8.wordExact (View.wordExact_bits rfl)) fun _ => .ret ⟨⟩

set_option maxRecDepth 65536 in
set_option maxHeartbeats 4000000 in
/-- The printed body is `trip` inside `outer`. -/
theorem body_eq : cc0__sc_pool_body (F := F) i arg2 harg2 arg3 harg3 arg4 harg4 arg5 harg5 arg6 harg6 arg7 harg7 arg8 harg8 arg9 arg10 r0 r1
    = outer i arg2 arg3 arg4 arg5 harg5 arg6 arg7 arg8 harg8 arg9 arg10 r0 r1
        (fun t _ => trip i arg2 arg5 arg6 harg6 arg7 harg7 arg8 arg9 arg10 t) := by
  refine congrArg (outer i arg2 arg3 arg4 arg5 harg5 arg6 arg7 arg8 harg8 arg9 arg10 r0 r1) (funext fun t => funext fun _ => ?_)
  refine Eq.symm (congrArg (Prog.op _) (funext fun _ => ?_))
  iterate 32
    refine eq_first (F := F) fun w => ?_
    iterate 15 refine eq_row (F := F) fun w => ?_
    refine eq_last (F := F) ?_ fun u => ?_
    · rfl
  refine Eq.trans (b := dite (k0_cond1 t = 1#1) _ _) rfl ?_
  by_cases h1 : k0_cond1 t = 1#1
  · simp -zeta -proj -iota only [dif_pos h1]
    refine congrArg (Prog.op _) (funext fun _ => ?_)
    refine congrArg (Prog.op _) (funext fun _ => ?_)
    iterate 32
      refine eq_first (F := F) fun w => ?_
      iterate 15 refine eq_row (F := F) fun w => ?_
      refine eq_last (F := F) ?_ fun u => ?_
      · rfl
    refine Eq.trans (b := dite (k0_cond2 t = 1#1) _ _) rfl ?_
    by_cases h2 : k0_cond2 t = 1#1
    · simp -zeta -proj -iota only [dif_pos h2]; rfl
    · simp -zeta -proj -iota only [dif_neg h2]; rfl
  · simp -zeta -proj -iota only [dif_neg h1]
    refine congrArg (Prog.op _) (funext fun _ => ?_)
    iterate 32
      refine eq_first (F := F) fun w => ?_
      iterate 15 refine eq_row (F := F) fun w => ?_
      refine eq_last (F := F) ?_ fun u => ?_
      · rfl
    refine Eq.trans (b := dite (k0_cond2 t = 1#1) _ _) rfl ?_
    by_cases h2 : k0_cond2 t = 1#1
    · simp -zeta -proj -iota only [dif_pos h2]; rfl
    · simp -zeta -proj -iota only [dif_neg h2]; rfl

end

end Cert.Proof.Pool

end
-- ==== Proof.Pool.Words.lean ====
/-
  What the pooling computes, word by word: the maximum of the low halves and of the high halves of sixteen table rows,
  and that a chunk of the tile's program stores exactly those words.
-/
module

public import proofs.«01_k».proof.Proof.Pool.Shape
public import Idealize.ShloMosaic.Lib.Writes

@[expose] public section

noncomputable section

namespace Cert.Proof.Pool

open Cert.KernelIdeal Cert.KernelIdeal.Gen
open Idealize.ShloMosaic Idealize.SL.Sem

variable {F : FTy → Type} [FloatOps F]

/-- The unsigned maximum of `f 0, …, f n`. -/
def maxTo (f : ℕ → BitVec 32) : ℕ → BitVec 32
  | 0 => f 0
  | n + 1 => IntOp.maxui (maxTo f n) (f (n + 1))

/-- Sixteen packed words pooled: the largest low half beside the largest high half. -/
def packMax (w : ℕ → BitVec 32) : BitVec 32 :=
  IntOp.ori (maxTo (fun k => IntOp.andi (w k) 65535#32) 15) (IntOp.shli .vector (maxTo (fun k => IntOp.shrui .vector (w k) 16#32) 15) 16#32)

theorem maxTo_congr {f g : ℕ → BitVec 32} (n : ℕ) (h : ∀ k, k ≤ n → f k = g k) : maxTo f n = maxTo g n := by
  induction n with
  | zero => exact h 0 le_rfl
  | succ n ih => simp only [maxTo]; rw [ih fun k hk => h k (by omega), h (n + 1) le_rfl]

theorem packMax_congr {w w' : ℕ → BitVec 32} (h : ∀ k, k < 16 → w k = w' k) : packMax w = packMax w' := by
  unfold packMax
  rw [maxTo_congr 15 fun k hk => by rw [h k (by omega)], maxTo_congr (f := fun k => IntOp.shrui .vector (w k) 16#32) 15 fun k hk => by rw [h k (by omega)]]

/-- Row `n`, column `c` of the table. -/
def tIx (n c : ℕ) : S32768x128.Idx := fun | 0 => ⟨n % 32768, Nat.mod_lt _ (by decide)⟩ | 1 => ⟨c % 128, Nat.mod_lt _ (by decide)⟩
/-- Row `a`, column `b` of the index array. -/
def iIx (a b : ℕ) : S1024x64.Idx := fun | 0 => ⟨a % 1024, Nat.mod_lt _ (by decide)⟩ | 1 => ⟨b % 64, Nat.mod_lt _ (by decide)⟩
/-- Row `a`, column `b` of the output. -/
def oIx (a b : ℕ) : S4096x128.Idx := fun | 0 => ⟨a % 4096, Nat.mod_lt _ (by decide)⟩ | 1 => ⟨b % 128, Nat.mod_lt _ (by decide)⟩
/-- Row `r`, lane `y` of column block `c`, of a row buffer. -/
def rowIx (r c : ℕ) (y : S1x16.Idx) : S64x128.Idx := fun | 0 => ⟨r % 64, Nat.mod_lt _ (by decide)⟩ | 1 => ⟨(16 * c + (y 1).val) % 128, Nat.mod_lt _ (by decide)⟩

/-- THE POOLED TABLE: row `q` is the pooling of the sixteen table rows that the index array names for `q`. -/
def pooled (tb : S32768x128.Idx → BitVec 32) (ib : S1024x64.Idx → BitVec 32) : S4096x128.Idx → BitVec 32 := fun z =>
  packMax fun k => tb (tIx (ib (iIx ((z 0).val / 4) (16 * ((z 0).val % 4) + k))).toNat (z 1).val)

/-- The words of row `r`, column block `c`. -/
def rowOf (R : S64x128.Idx → Elt F .i32) (r c : ℕ) (hr : r < 64) (hc : c < 8) : Vec F S1x16 .i32 :=
  fun y => R ((Rect.unit (s := S64x128) ![r, 16 * c] S1x16.size (rowInb hr hc)).emb y)

theorem rowOf_apply (R : S64x128.Idx → Elt F .i32) (r c : ℕ) (hr : r < 64) (hc : c < 8) (y : S1x16.Idx) :
    rowOf R r c hr hc y = R (rowIx r c y) := by
  unfold rowOf
  congr 1
  funext a
  apply Fin.ext
  have hy0 : (y 0).val < 1 := (y 0).isLt
  have hy1 : (y 1).val < 16 := (y 1).isLt
  match a with
  | 0 => show r + 1 * (y 0).val = r % 64; omega
  | 1 => show 16 * c + 1 * (y 1).val = (16 * c + (y 1).val) % 128; omega

/-- Fold the low and high halves' maxima over `n` further rows, from row `r`. -/
def foldVal (R : S64x128.Idx → Elt F .i32) (c : ℕ) (hc : c < 8) : (n r : ℕ) → (h : r + n ≤ 64) → IVec S16 32 × IVec S16 32 → IVec S16 32 × IVec S16 32
  | 0, _, _, p => p
  | n + 1, r, h, p => foldVal R c hc n (r + 1) (by omega)
      (maxui p.1 (lo16 (rowOf R r c (by omega) hc)), maxui p.2 (hi16 (rowOf R r c (by omega) hc)))

/-- What a chunk stores. -/
def chunkVal (R : S64x128.Idx → Elt F .i32) (x : Chunk) : S1x16.Idx → Elt F .i32 :=
  let w := rowOf R x.r x.c (by have := x.hr; omega) x.hc
  let p := foldVal R x.c x.hc 15 (x.r + 1) (by have := x.hr; omega) (lo16 w, hi16 w)
  shapeCast S1x16 (ori p.1 (shli p.2 (broadcast S16 16#32))) shapeCasts_S16_S1x16

/-- A lane of sixteen words, as an index of the words. -/
abbrev lane (j : S16.Idx) : S1x16.Idx := Shape.reshapeEquiv shapeCasts_S1x16_S16 j

theorem lo16_apply (R : S64x128.Idx → Elt F .i32) (r c : ℕ) (hr : r < 64) (hc : c < 8) (j : S16.Idx) :
    lo16 (rowOf R r c hr hc) j = IntOp.andi (R (rowIx r c (lane j))) 65535#32 := by
  rw [← rowOf_apply R r c hr hc]; rfl
theorem hi16_apply (R : S64x128.Idx → Elt F .i32) (r c : ℕ) (hr : r < 64) (hc : c < 8) (j : S16.Idx) :
    hi16 (rowOf R r c hr hc) j = IntOp.shrui .vector (R (rowIx r c (lane j))) 16#32 := by
  rw [← rowOf_apply R r c hr hc]; rfl

/-- The fold from the maxima of rows `r₀ … r₀ + k` is the maxima of `r₀ … r₀ + k + n`. -/
theorem foldVal_apply (R : S64x128.Idx → Elt F .i32) (c : ℕ) (hc : c < 8) (r₀ : ℕ) (j : S16.Idx) : ∀ (n k : ℕ) (h : (r₀ + k + 1) + n ≤ 64) (p : IVec S16 32 × IVec S16 32),
    p.1 j = maxTo (fun k => IntOp.andi (R (rowIx (r₀ + k) c (lane j))) 65535#32) k →
    p.2 j = maxTo (fun k => IntOp.shrui .vector (R (rowIx (r₀ + k) c (lane j))) 16#32) k →
    (foldVal R c hc n (r₀ + k + 1) h p).1 j = maxTo (fun k => IntOp.andi (R (rowIx (r₀ + k) c (lane j))) 65535#32) (k + n)
      ∧ (foldVal R c hc n (r₀ + k + 1) h p).2 j = maxTo (fun k => IntOp.shrui .vector (R (rowIx (r₀ + k) c (lane j))) 16#32) (k + n)
  | 0, k, h, p, h1, h2 => ⟨h1, h2⟩
  | n + 1, k, h, p, h1, h2 => by
    have e := foldVal_apply R c hc r₀ j n (k + 1) (by omega)
      (maxui p.1 (lo16 (rowOf R (r₀ + k + 1) c (by omega) hc)), maxui p.2 (hi16 (rowOf R (r₀ + k + 1) c (by omega) hc)))
      (by
        show IntOp.maxui (p.1 j) (lo16 (rowOf R (r₀ + k + 1) c _ hc) j) = _
        rw [h1, lo16_apply]; rfl)
      (by
        show IntOp.maxui (p.2 j) (hi16 (rowOf R (r₀ + k + 1) c _ hc) j) = _
        rw [h2, hi16_apply]; rfl)
    rw [show k + (n + 1) = k + 1 + n by omega]
    exact e

/-- What a chunk stores at a lane: the sixteen rows' words at that lane, pooled. -/
theorem chunkVal_apply (R : S64x128.Idx → Elt F .i32) (x : Chunk) (y : S1x16.Idx) :
    chunkVal R x y = packMax fun k => R (rowIx (x.r + k) x.c y) := by
  have hr := x.hr
  have hl : lane (Shape.reshapeEquiv shapeCasts_S16_S1x16 y) = y := by
    exact (Shape.reshapeEquiv_reshapeEquiv _ _ _).trans (Shape.reshapeEquiv_self _ _)
  have e := foldVal_apply R x.c x.hc x.r (Shape.reshapeEquiv shapeCasts_S16_S1x16 y) 15 0 (by omega)
    (lo16 (rowOf R x.r x.c (by omega) x.hc), hi16 (rowOf R x.r x.c (by omega) x.hc))
    (lo16_apply R x.r x.c _ x.hc _) (hi16_apply R x.r x.c _ x.hc _)
  rw [hl] at e
  unfold packMax
  rw [← show 0 + 15 = 15 from rfl, ← e.1, ← e.2]
  rfl

end Cert.Proof.Pool

end
-- ==== Proof.Pool.Base.lean ====
/-
  The program of the SparseCore pooling call as the launch theorem sees it, and its buffers.
-/
module

public import proofs.«01_k».proof.Proof.Pool.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's bodies. -/
abbrev ΛP : Labels := Pipeline.Sig Λ₀ (Fin 0) fun p => (pcfgs (F := F) p).Adm
/-- The one SparseCore call. -/
abbrev K : SparseCore.Cfg τ sig (ΛP (F := F)) 1 := sc (F := F)
/-- The body table. -/
abbrev D [FloatOps F] : Defs nD τ sig (Elt F) (ΛP (F := F)) := Pipeline.defs pcfgs defs₀
/-- No loop of unknown length, so no variants. -/
abbrev 𝒱₀ : Variants := Variants.none
/-- The same at the launch. -/
abbrev 𝒱 : Variants := 𝒱₀.lift
/-- The variant the run starts at. -/
abbrev v₀ : 𝒱.V := Sum.inl none

/-- The launch's semaphores and buffers are placed as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The handshakes' rounds beside the transfers' counters. -/
abbrev UU : Type := UH × Counters

local notation "𝕄" => MT nD τ sig (HIx 1) (Elt F) ℕ UU ℕ

/-- Where the handshakes' rounds live. -/
abbrev EH : Emb UH (MT nD τ sig (HIx 1) (Elt F) ℕ UU ℕ) := embL

/-! ## The buffers -/

/-- The table, the index array and the output on device `d`. -/
abbrev tLoc (d : Dev nD) : Loc nD τ sig := (SparseCore.T d).loc main_arg0
/-- The index array on device `d`. -/
abbrev iLoc (d : Dev nD) : Loc nD τ sig := (SparseCore.T d).loc main_arg1
/-- The output on device `d`. -/
abbrev oLoc (d : Dev nD) : Loc nD τ sig := (SparseCore.T d).loc main_v0

/-- The table as a tile names it. -/
abbrev tV : Memref sig .scVector .hbm S32768x128 .i32 := Memref.whole main_arg0_scv
/-- The index array as a tile names it. -/
abbrev iV : Memref sig .scVector .hbm S1024x64 .i32 := Memref.whole main_arg1_scv
/-- The output as a tile names it. -/
abbrev oV : Memref sig .scVector .hbm S4096x128 .i32 := Memref.whole main_v0_scv
/-- A tile's block of indices. -/
abbrev sV : Memref sig .scVector .vmem S32x64 .i32 := Memref.whole cc0_scratch0
/-- A tile's first row buffer. -/
abbrev aV : Memref sig .scVector .vmem S64x128 .i32 := Memref.whole cc0_scratch1
/-- A tile's second row buffer. -/
abbrev bV : Memref sig .scVector .vmem S64x128 .i32 := Memref.whole cc0_scratch2
/-- A tile's block of pooled rows. -/
abbrev pV : Memref sig .scVector .vmem S128x128 .i32 := Memref.whole cc0_scratch3

/-- The SparseCore of grid coordinates `L`. -/
abbrev cV (L : grid0.Coords) : Fin τ.nSC := (L 0).castLE hcore0
/-- The vector subcore of grid coordinates `L`. -/
abbrev jV (L : grid0.Coords) : Fin τ.nSub := (L 1).castLE hsub0

/-! ## Pooling a list of chunks -/

section Rules

variable [FloatOps F] (d : Dev nD) (L : grid0.Coords)

local notation "thr" => V d (cV L) (jV L)
local notation "WP" => wp frame (wpE (defs₀ (F := F)) 𝒱₀ (V d (cV L) (jV L)) none) Set.univ

/-- Loading a row: the row buffer is kept, the program continues at the row's words. -/
theorem wp_loadRow {Q : PUnit.{1} → sProp 𝕄} (rows : Memref sig .scVector .vmem S64x128 .i32) (r c : ℕ) (hr : r < 64) (hc : c < 8)
    (f : Buf (Elt F) (rows.view.loc thr)) (k : (S1x16.Idx → Elt F .i32) → TileProg F L) :
    (rows.view.loc thr ↦[rows.view.set]{fullShare} f : sProp 𝕄)
      ⊢ iprop(((rows.view.loc thr ↦[rows.view.set]{fullShare} f) -∗ WP (k (rowOf (rows.view.read (Elt F) f) r c hr hc)) Q)
        -∗ WP (loadRow rows r c hr hc k) Q) :=
  wp_load_rect 𝒱₀ thr none Set.univ (m := rows) (r := Rect.unit (s := S64x128) ![r, 16 * c] S1x16.size (rowInb hr hc))
    (S := rows.view.set) (f := f) (View.set_slice_subset _ _)

/-- Folding over further rows: the row buffer is kept, the program continues at the folded maxima. -/
theorem wp_foldRows {Q : PUnit.{1} → sProp 𝕄} (rows : Memref sig .scVector .vmem S64x128 .i32) (c : ℕ) (hc : c < 8) (f : Buf (Elt F) (rows.view.loc thr))
    (k : IVec S16 32 → IVec S16 32 → TileProg F L) : ∀ (n r : ℕ) (h : r + n ≤ 64) (lo hi : IVec S16 32),
    (rows.view.loc thr ↦[rows.view.set]{fullShare} f : sProp 𝕄)
      ⊢ iprop(((rows.view.loc thr ↦[rows.view.set]{fullShare} f)
            -∗ WP (k (foldVal (rows.view.read (Elt F) f) c hc n r h (lo, hi)).1 (foldVal (rows.view.read (Elt F) f) c hc n r h (lo, hi)).2) Q)
        -∗ WP (foldRows rows c hc n r h lo hi k) Q)
  | 0, r, h, lo, hi => by
    iintro H Hk; iapply Hk; iexact H
  | n + 1, r, h, lo, hi => by
    iintro H Hk
    iapply (wp_loadRow d L rows r c (by omega) hc f) $$ H
    iintro H
    iapply (wp_foldRows rows c hc f k n (r + 1) _ _ _) $$ H
    iexact Hk

/-- Pooling a list of chunks into a buffer: wherever a chunk stores what `G` says, and wherever the buffer agreed with
    `G` before, it agrees with `G` afterwards. -/
theorem wp_pool {Q : PUnit.{1} → sProp 𝕄} (rows : Memref sig .scVector .vmem S64x128 .i32) (out : Memref sig .scVector .vmem S128x128 .i32)
    (f : Buf (Elt F) (rows.view.loc thr)) (G : S128x128.Idx → Elt F .i32) (k : TileProg F L) : ∀ (l : List Chunk)
    (_ : ∀ x ∈ l, ∀ y, chunkVal (rows.view.read (Elt F) f) x y = G (x.rect.emb y)) (g : Buf (Elt F) (out.view.loc thr)),
    iprop((rows.view.loc thr ↦[rows.view.set]{fullShare} f) ∗ (out.view.loc thr ↦[out.view.set]{fullShare} g) : sProp 𝕄)
      ⊢ iprop((∀ g' : Buf (Elt F) (out.view.loc thr),
            ⌜∀ y, ((∃ x ∈ l, y ∈ x.rect.set) ∨ out.view.read (Elt F) g y = G y) → out.view.read (Elt F) g' y = G y⌝
            -∗ (rows.view.loc thr ↦[rows.view.set]{fullShare} f) -∗ (out.view.loc thr ↦[out.view.set]{fullShare} g') -∗ WP k Q)
        -∗ WP (pool rows out l k) Q)
  | [], _, g => by
    iintro ⟨H, Ho⟩ Hk
    iapply Hk $$ %g [] H Ho
    ipureintro
    rintro y (⟨x, hx, -⟩ | h)
    · exact absurd hx List.not_mem_nil
    · exact h
  | x :: l, hG, g => by
    iintro ⟨H, Ho⟩ Hk
    iapply (wp_loadRow d L rows x.r x.c (by have := x.hr; omega) x.hc f) $$ H
    iintro H
    iapply (wp_foldRows d L rows x.c x.hc f _ 15 (x.r + 1) _ _ _) $$ H
    iintro H
    iapply (wp_load_rect 𝒱₀ thr none Set.univ (m := out) (r := x.rect) (S := out.view.set) (f := g) (View.set_slice_subset _ _)) $$ Ho
    iintro Ho
    iapply (wp_store 𝒱₀ thr none Set.univ (m := out) (r := x.rect) (S := out.view.set) (f := g) (View.set_slice_subset _ _)) $$ Ho
    iintro Ho
    iapply (wp_pool rows out f G k l (fun x' hx' => hG x' (List.mem_cons_of_mem _ hx')) _) $$ [H Ho]
    · isplitl [H] <;> iassumption
    iintro %g' %hg' H Ho
    iapply Hk $$ %g' [] H Ho
    ipureintro
    intro y hy
    apply hg'
    by_cases hx : y ∈ x.rect.set
    · right
      obtain ⟨z, rfl⟩ : ∃ z, x.rect.emb z = y := x.rect.exists_idx_of_mem hx
      exact (View.read_slice_write_emb (v := out.view) x.rect g _ (Finset.mem_univ z)).trans (hG x List.mem_cons_self z)
    · rcases hy with ⟨x', hx', hy⟩ | hy
      · rcases List.mem_cons.mp hx' with rfl | hx'
        · exact absurd hy hx
        · exact .inl ⟨x', hx', hy⟩
      · right
        exact (View.read_slice_write_of_not_mem (v := out.view) x.rect g _ _ (by rwa [Rect.map_emb_univ])).trans hy

end Rules

end Cert.Proof.Pool

end
-- ==== Proof.Pool.Gathered.lean ====
/-
  What the tile of block `w` finds in its row buffers and what it must store: the pure facts.
-/
module

public import proofs.«01_k».proof.Proof.Pool.Base

@[expose] public section

noncomputable section

namespace Cert.Proof.Pool

open Cert.KernelIdeal Cert.KernelIdeal.Gen
open Idealize.ShloMosaic Idealize.SL.Sem

variable {F : FTy → Type}

/-- The tiles' blocks: tile `(c, s)` works on block `2 s + c`. -/
abbrev blk (L : grid0.Coords) : ℕ := 2 * (L 1).val + (L 0).val

theorem blk_lt (L : grid0.Coords) : blk L < 32 := by
  have h0 : (L 0).val < 2 := (L 0).isLt
  have h1 : (L 1).val < 16 := (L 1).isLt
  unfold blk; omega

/-- Entry `(p, x)` of the index block of tile `w`, of the index array. -/
def blockIx (w : ℕ) (z : S32x64.Idx) : S1024x64.Idx := iIx (32 * w + (z 0).val) (z 1).val

/-- The rows gathered for list `p` of block `w`. -/
def slotRows (tb : S32768x128.Idx → BitVec 32) (ib : S1024x64.Idx → BitVec 32) (w p : ℕ) : S64x128.Idx → BitVec 32 := fun z =>
  tb (tIx (ib (iIx (32 * w + p) (z 0).val)).toNat (z 1).val)

/-- The pooled rows of block `w`. -/
def blockOut (tb : S32768x128.Idx → BitVec 32) (ib : S1024x64.Idx → BitVec 32) (w : ℕ) : S128x128.Idx → BitVec 32 := fun z =>
  pooled tb ib (oIx (128 * w + (z 0).val) (z 1).val)

/-- Chunk `c` of query `r`, stored at row `4 p + r`, of the rows gathered for list `p`, is a piece of the block's pooled rows. -/
theorem chunk_value [FloatOps F] (tb : S32768x128.Idx → BitVec 32) (ib : S1024x64.Idx → BitVec 32) (w p : ℕ) (hw : w < 32) (hp : p < 32) (x : Chunk)
    (r c : ℕ) (hr : r < 4) (hc : c < 8) (exr : x.r = 16 * r) (exc : x.c = c) (exo : x.off = ![4 * p + r, 16 * c]) (y : S1x16.Idx) :
    chunkVal (F := F) (slotRows tb ib w p) x y = blockOut tb ib w (x.rect.emb y) := by
  have hy0 : (y 0).val < 1 := (y 0).isLt
  have hy1 : (y 1).val < 16 := (y 1).isLt
  rw [chunkVal_apply]
  have e0 : (x.rect.emb y 0).val = 4 * p + r := by
    show x.off 0 + 1 * (y 0).val = _
    rw [exo]; show 4 * p + r + 1 * (y 0).val = _; omega
  have e1 : (x.rect.emb y 1).val = 16 * c + (y 1).val := by
    show x.off 1 + 1 * (y 1).val = _
    rw [exo]; show 16 * c + 1 * (y 1).val = _; omega
  unfold blockOut pooled slotRows
  apply packMax_congr
  intro k hk
  have a0 : (oIx (128 * w + (x.rect.emb y 0).val) (x.rect.emb y 1).val 0).val = 128 * w + 4 * p + r := by
    show (128 * w + (x.rect.emb y 0).val) % 4096 = _; omega
  have a1 : (oIx (128 * w + (x.rect.emb y 0).val) (x.rect.emb y 1).val 1).val = 16 * c + (y 1).val := by
    show (x.rect.emb y 1).val % 128 = _; omega
  rw [a0, a1]
  have b0 : (rowIx (x.r + k) x.c y 0).val = 16 * r + k := by
    show (x.r + k) % 64 = _; omega
  have b1 : (rowIx (x.r + k) x.c y 1).val = 16 * c + (y 1).val := by
    show (16 * x.c + (y 1).val) % 128 = _; omega
  rw [b0, b1, show (128 * w + 4 * p + r) / 4 = 32 * w + p by omega, show (128 * w + 4 * p + r) % 4 = r by omega]

/-- The place of list `p` among the index block's words. -/
theorem listAt_read (off : Fin 2 → ℕ) (h : ∀ a, off a + S1x64.size a ≤ S32x64.size a) (p : ℕ) (hp : off = ![p, 0])
    (iv : S32x64.Idx → Elt F .i32) (j : S64.Idx) :
    ∃ z : S32x64.Idx, (z 0).val = p ∧ (z 1).val = (j 0).val ∧ (listAt sV off h).view.read (Elt F) iv j = iv z := by
  refine ⟨(Rect.unit (s := S32x64) off S1x64.size h).emb (Shape.reshapeEquiv squeezes_S1x64_S64.numel_eq j), ?_, ?_, rfl⟩
  · rw [show Shape.reshapeEquiv squeezes_S1x64_S64.numel_eq j = Fin.cons ⟨0, Nat.one_pos⟩ j from
      Shape.reshapeEquiv_cons_one (n := 1) (d := ![64]) squeezes_S1x64_S64.numel_eq j]
    subst hp; rfl
  · rw [show Shape.reshapeEquiv squeezes_S1x64_S64.numel_eq j = Fin.cons ⟨0, Nat.one_pos⟩ j from
      Shape.reshapeEquiv_cons_one (n := 1) (d := ![64]) squeezes_S1x64_S64.numel_eq j]
    subst hp
    show 0 + 1 * (j 0).val = (j 0).val
    omega

/-- The whole table, read as a gather addresses it. -/
theorem tableAll_read (tb : S32768x128.Idx → Elt F .i32) (z : S32768x128.Idx) : (tableAll tV).view.read (Elt F) tb z = tb z := by
  show tb _ = tb z
  congr 1
  funext a
  apply Fin.ext
  match a with
  | 0 => show 0 + 1 * (z 0).val = _; omega
  | 1 => show 0 + 1 * (z 1).val = _; omega

theorem tableAll_set : (tableAll tV).view.set = Finset.univ := by
  rw [show (tableAll tV).view.set = ((Memref.whole main_arg0_scv : Memref sig .scVector .hbm S32768x128 .i32).view.slice (Rect.unit (s := S32768x128) ![0, 0] S32768x128.size inb_S32768x128_S32768x128_0_0)).set from rfl,
    View.set_slice]
  ext z
  simp only [Finset.mem_map, Finset.mem_univ, iff_true]
  refine ⟨z, ?_, rfl⟩
  refine (Rect.unit (s := S32768x128) ![0, 0] S32768x128.size inb_S32768x128_S32768x128_0_0).mem_set.mpr fun a => ?_
  refine ⟨(z a).val, (z a).isLt, ?_⟩
  match a with
  | 0 => show (z 0).val = 0 + 1 * (z 0).val; omega
  | 1 => show (z 1).val = 0 + 1 * (z 1).val; omega

/-- What a tile's index block holds: its block of the index array. -/
def IvOK (ib : S1024x64.Idx → BitVec 32) (w : ℕ) (iv : S32x64.Idx → BitVec 32) : Prop := ∀ z, iv z = ib (blockIx w z)

/-- Every index names a row of the table. -/
def IbOK (ib : S1024x64.Idx → BitVec 32) : Prop := ∀ z, (ib z).toNat < 32768

theorem list_lt {ib : S1024x64.Idx → BitVec 32} (hib : IbOK ib) {w : ℕ} {iv : S32x64.Idx → BitVec 32} (hiv : IvOK ib w iv)
    (off : Fin 2 → ℕ) (h : ∀ a, off a + S1x64.size a ≤ S32x64.size a) :
    ∀ j, ((listAt sV off h).view.read (Elt F) iv j).toNat < S32768x128.size gathers_S32768x128_S64x128.axis := fun j => by
  show (iv _).toNat < 32768
  rw [hiv]; exact hib _

/-- The gather of list `p` brings exactly the rows the list names. -/
theorem gather_value (tb : S32768x128.Idx → Elt F .i32) {ib : S1024x64.Idx → BitVec 32} (hib : IbOK ib) {w : ℕ} {iv : S32x64.Idx → BitVec 32} (hiv : IvOK ib w iv)
    (off : Fin 2 → ℕ) (h : ∀ a, off a + S1x64.size a ≤ S32x64.size a) (p : ℕ) (hp : off = ![p, 0])
    (hn : S64.numel = S64x128.size gathers_S32768x128_S64x128.axis') (hin : ∀ j, ((listAt sV off h).view.read (Elt F) iv j).toNat < S32768x128.size gathers_S32768x128_S64x128.axis) :
    SparseCore.gatherPayload (F := F) (e := .i32) gathers_S32768x128_S64x128 ((tableAll tV).view.read (Elt F) tb)
      (SparseCore.rows ((listAt sV off h).view.read (Elt F) iv) hn hin) = slotRows tb ib w p := by
  funext z
  unfold SparseCore.gatherPayload slotRows
  rw [tableAll_read]
  congr 1
  funext a
  apply Fin.ext
  match a with
  | 0 =>
    rw [show (0 : Fin S32768x128.rank) = (gathers_S32768x128_S64x128 : S32768x128.Gathers 0 S64x128).axis from rfl, Shape.Gathers.idx_axis]
    obtain ⟨z', e0, e1, e⟩ := listAt_read (F := F) off h p hp iv (S64.rowMajor.symm (Fin.cast hn.symm (z 0)))
    have hj : ((S64.rowMajor.symm (Fin.cast hn.symm (z 0))) 0).val = (z 0).val := by
      have := Shape.rowMajor_val_one (d := ![64]) (S64.rowMajor.symm (Fin.cast hn.symm (z 0)))
      rw [← this]
      show (S64.rowMajor (S64.rowMajor.symm _)).val = _
      rw [Equiv.apply_symm_apply]; rfl
    show ((listAt sV off h).view.read (Elt F) iv (S64.rowMajor.symm (Fin.cast hn.symm (z 0)))).toNat = (ib (iIx (32 * w + p) (z 0).val)).toNat % 32768
    rw [e, hiv z', blockIx, e0, e1, hj]
    exact (Nat.mod_eq_of_lt (hib _)).symm
  | 1 =>
    rw [Shape.Gathers.idx_of_ne _ _ _ _ (by decide)]
    have : (z 1).val < 128 := (z 1).isLt
    exact (Nat.mod_eq_of_lt this).symm

end Cert.Proof.Pool

end
-- ==== Proof.Pool.Streams.lean ====
/-
  A tile's two streams: a row buffer with its semaphore, its share of the table and its share of the index block, either
  idle or filling with the rows of one list; starting a stream, waiting for it, and one half of a trip.
-/
module

public import proofs.«01_k».proof.Proof.Pool.Gathered

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "thr" => V d (cV L) (jV L)
local notation "WP" => wp frame (wpE (defs₀ (F := F)) 𝒱₀ (V d (cV L) (jV L)) none) Set.univ

section Stream

variable (tb : S32768x128.Idx → Elt F .i32) (ib : S1024x64.Idx → BitVec 32) (iv : S32x64.Idx → Elt F .i32)
  (rows : Memref sig .scVector .vmem S64x128 .i32) (s : DmaSems sig S_) (qt qi : PosShare TreeShare)

/-- The row buffer, holding the rows of list `p` of the tile's block. -/
def Full (p : ℕ) : sProp 𝕄 :=
  iprop(∃ f : Buf (Elt F) (rows.view.loc thr), ⌜rows.view.read (Elt F) f = slotRows tb ib (blk L) p⌝ ∗ rows.view.loc thr ↦[rows.view.set]{fullShare} f)

/-- The stream in flight with the rows of list `p`; the part of the index block it does not read stays here. -/
def Fly (p : ℕ) : sProp 𝕄 :=
  iprop(∃ S : Finset S32x64.Idx,
    Transfers.Flight countersEmb thr (.dma s.sem) (default : HIx 1) rows.view.dmaCredit
      iprop(Full d L tb ib rows p ∗ ((tV).view.loc thr ↦{qt} tb) ∗ ((sV).view.loc thr ↦[S]{qi} iv))
    ∗ ((sV).view.loc thr ↦[Finset.univ \ S]{qi} iv))

/-- The stream at rest. -/
def Idle : sProp 𝕄 :=
  iprop((∃ f : Buf (Elt F) (rows.view.loc thr), rows.view.loc thr ↦[rows.view.set]{fullShare} f)
    ∗ ((tV).view.loc thr ↦{qt} tb) ∗ ((sV).view.loc thr ↦{qi} iv) ∗ semVal (thr, SemLoc.dma s.sem) 0)

/-- The stream before list `p` is pooled: in flight while there is a list `p`, at rest after the last. -/
def Slot (p : ℕ) : sProp 𝕄 := if p < 32 then Fly d L tb ib iv rows s qt qi p else Idle d L tb iv rows s qt qi

variable {tb} {ib} {iv}

/-- Starting the gather of list `p` puts the stream in flight. -/
theorem wp_gather {Q : PUnit.{1} → sProp 𝕄} (hib : IbOK ib) (hiv : IvOK ib (blk L) iv)
    (hcr : ∑ j, (rows.slice (S64x128.rowRect gathers_S32768x128_S64x128.axis' j) (S64x128.stride_rowRect gathers_S32768x128_S64x128.axis' j)).view.dmaCredit = rows.view.dmaCredit)
    (off : Fin 2 → ℕ) (h : ∀ a, off a + S1x64.size a ≤ S32x64.size a) (p : ℕ) (hp : off = ![p, 0]) (k : PUnit → TileProg F L) :
    (Idle d L tb iv rows s qt qi : sProp 𝕄)
      ⊢ iprop((Fly d L tb ib iv rows s qt qi p -∗ WP (k ⟨⟩) Q) -∗ WP (gather tV rows (listAt sV off h) s k) Q) := by
  unfold Idle
  iintro ⟨⟨%f, Hr⟩, Ht, Hs, Hsem⟩ Hk
  ihave Hss := (pointsTo_split_subset (ℓ := (sV).view.loc thr) (q := qi) (f := iv) (S := Finset.univ) (Finset.subset_univ (listAt sV off h).view.set)).1 $$ Hs
  icases Hss with ⟨Hs, Hrest⟩
  ihave Ht' := (Entails.of_eq (show ((tV).view.loc thr ↦{qt} tb : sProp 𝕄) = (tableAll tV).view.loc thr ↦[(tableAll tV).view.set]{qt} tb by
    rw [tableAll_set])) $$ Ht
  have hin := list_lt (F := F) hib hiv off h
  iapply (SparseCore.wp_indirectGatherLocal countersEmb 𝒱₀ thr none (src := tableAll tV) (dst := rows) (offs := listAt sV off h) (fo := iv) (fd := f) (fs := tb)
      (hg := gathers_S32768x128_S64x128) (default : HIx 1) rows.view.dmaCredit hcr (by decide) hin) $$ [Hr Ht' Hs Hsem]
  · isplitl [Ht']; · iexact Ht'
    isplitl [Hr]; · iexact Hr
    isplitl [Hs]; · iexact Hs
    iexact Hsem
  iintro Hfl
  iapply Hk
  unfold Fly
  iexists (listAt sV off h).view.set
  isplitl [Hfl]
  · iapply (Transfers.Flight_mono countersEmb thr ?_) $$ Hfl
    iintro ⟨Hr, Ht, Hs⟩
    isplitl [Hr]
    · unfold Full
      iexists _; isplitr
      swap; · iexact Hr
      ipureintro
      rw [View.read_write_univ]
      exact gather_value tb hib hiv off h p hp _ _
    isplitl [Ht]
    · iapply (Entails.of_eq (show ((tV).view.loc thr ↦{qt} tb : sProp 𝕄) = (tableAll tV).view.loc thr ↦[(tableAll tV).view.set]{qt} tb by
        rw [tableAll_set]).symm); iexact Ht
    iexact Hs
  iexact Hrest

/-- Waiting for the stream leaves it at rest with its row buffer full. -/
theorem wp_await {Q : PUnit.{1} → sProp 𝕄} (hr : rows.IsWhole) (p : ℕ) (O : CellTallies nD τ sig (HIx 1)) (W : Waits sig (HIx 1)) (k : PUnit → TileProg F L) :
    iprop(Fly d L tb ib iv rows s qt qi p ∗ owes thr O W ∗ Transfers.MayWaits thr (default : HIx 1) O : sProp 𝕄)
      ⊢ iprop((Full d L tb ib rows p -∗ ((tV).view.loc thr ↦{qt} tb) -∗ ((sV).view.loc thr ↦{qi} iv) -∗ semVal (thr, SemLoc.dma s.sem) 0
          -∗ owes thr O (insert (SemLoc.dma s.sem, (default : HIx 1)) W) -∗ WP (k ⟨⟩) Q) -∗ WP (await tV rows hr s k) Q) := by
  unfold Fly
  iintro ⟨⟨%S, Hfl, Hrest⟩, HO, Hmw⟩ Hk
  iapply (Transfers.wp_waitLocalO countersEmb 𝒱₀ thr none (default : HIx 1) (rfl : rows.view.dmaCredit = _)) $$ [Hfl HO Hmw]
  · isplitl [Hfl]; · iexact Hfl
    isplitl [HO]; · iexact HO
    iapply (Transfers.MayWaits.elim (SemLoc.dma s.sem)) $$ Hmw
  iintro ⟨⟨Hr, Ht, Hs⟩, Hsem, HO⟩
  ihave Hs' := (pointsTo_split_subset (ℓ := (sV).view.loc thr) (q := qi) (f := iv) (S := Finset.univ) (Finset.subset_univ S)).2 $$ [Hs Hrest]
  · isplitl [Hs] <;> iassumption
  iapply Hk $$ Hr Ht Hs' Hsem HO

/-- ONE HALF OF A TRIP: wait for list `p`, pool it, start list `p + 2` if there is one. -/
theorem wp_half {Q : PUnit.{1} → sProp 𝕄} (hib : IbOK ib) (hiv : IvOK ib (blk L) iv) (hr : rows.IsWhole)
    (hcr : ∑ j, (rows.slice (S64x128.rowRect gathers_S32768x128_S64x128.axis' j) (S64x128.stride_rowRect gathers_S32768x128_S64x128.axis' j)).view.dmaCredit = rows.view.dmaCredit)
    (p : ℕ) (hp : p < 32) (l : List Chunk)
    (hl : ∀ x ∈ l, ∃ r c, r < 4 ∧ c < 8 ∧ x.r = 16 * r ∧ x.c = c ∧ x.off = ![4 * p + r, 16 * c])
    (c : BitVec 1) (hc : c = 1#1 ↔ p + 2 < 32) (off : Fin 2 → ℕ) (hoff : c = 1#1 → ∀ a, off a + S1x64.size a ≤ S32x64.size a) (heq : off = ![p + 2, 0])
    (O : CellTallies nD τ sig (HIx 1)) (W : Waits sig (HIx 1)) (g : Buf (Elt F) ((pV).view.loc thr)) (k : TileProg F L) :
    iprop(Fly d L tb ib iv rows s qt qi p ∗ ((pV).view.loc thr ↦[(pV).view.set]{fullShare} g) ∗ owes thr O W ∗ Transfers.MayWaits thr (default : HIx 1) O : sProp 𝕄)
      ⊢ iprop((∀ g' : Buf (Elt F) ((pV).view.loc thr),
            ⌜∀ y, ((∃ x ∈ l, y ∈ x.rect.set) ∨ (pV).view.read (Elt F) g y = blockOut tb ib (blk L) y) → (pV).view.read (Elt F) g' y = blockOut tb ib (blk L) y⌝
            -∗ Slot d L tb ib iv rows s qt qi (p + 2) -∗ ((pV).view.loc thr ↦[(pV).view.set]{fullShare} g')
            -∗ owes thr O (insert (SemLoc.dma s.sem, (default : HIx 1)) W) -∗ WP k Q)
        -∗ WP (await tV rows hr s fun _ => pool rows pV l
            (if h : c = 1#1 then gather tV rows (listAt sV off (hoff h)) s fun _ => k else k)) Q) := by
  iintro ⟨Hfl, Hp, HO, Hmw⟩ Hk
  iapply (wp_await d L rows s qt qi hr p O W) $$ [Hfl HO Hmw]
  · isplitl [Hfl]; · iexact Hfl
    isplitl [HO] <;> iassumption
  iintro Hr Ht Hs Hsem HO
  unfold Full
  icases Hr with ⟨%f, %hf, Hr⟩
  iapply (wp_pool d L rows pV f (blockOut tb ib (blk L)) _ l (fun x hx y => by
      obtain ⟨r, c, h1, h2, h3, h4, h5⟩ := hl x hx
      rw [hf]
      exact chunk_value tb ib (blk L) p (blk_lt L) hp x r c h1 h2 h3 h4 h5 y) g) $$ [Hr Hp]
  · isplitl [Hr] <;> iassumption
  iintro %g' %hg' Hr Hp
  by_cases h : c = 1#1
  · rw [dif_pos h]
    iapply (wp_gather d L rows s qt qi hib hiv hcr off (hoff h) (p + 2) heq) $$ [Hr Ht Hs Hsem]
    · unfold Idle
      isplitl [Hr]; · iexists f; iexact Hr
      isplitl [Ht]; · iexact Ht
      isplitl [Hs] <;> iassumption
    iintro Hfl
    iapply Hk $$ %g' [] [Hfl] Hp HO
    · ipureintro; exact hg'
    · unfold Slot; rw [if_pos (hc.mp h)]; iexact Hfl
  · rw [dif_neg h]
    iapply Hk $$ %g' [] [Hr Ht Hs Hsem] Hp HO
    · ipureintro; exact hg'
    · unfold Slot Idle; rw [if_neg fun e => h (hc.mpr e)]
      isplitl [Hr]; · iexists f; iexact Hr
      isplitl [Ht]; · iexact Ht
      isplitl [Hs] <;> iassumption

end Stream

end Cert.Proof.Pool

end
-- ==== Proof.Pool.Tile.lean ====
/-
  One tile's task: the copy in of its block of indices, the sixteen trips, the copy out of its block of pooled rows.
-/
module

public import proofs.«01_k».proof.Proof.Pool.Streams

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "thr" => V d (cV L) (jV L)
local notation "WP" => wp frame (wpE (defs₀ (F := F)) 𝒱₀ (V d (cV L) (jV L)) none) Set.univ

/-! ## The trips -/

theorem trips_eq : k0_t1_loop.trips = 16 := by decide +kernel
theorem cond1_iff (t : Fin k0_t1_loop.trips) : k0_cond1 t = 1#1 ↔ 2 * t.val + 2 < 32 := by
  revert t; decide +kernel
theorem cond2_iff (t : Fin k0_t1_loop.trips) : k0_cond2 t = 1#1 ↔ 2 * t.val + 1 + 2 < 32 := by
  revert t; decide +kernel

/-- The rows one half of a trip pools, from row `a`: four rows, all columns. -/
theorem half_cover (a : ℕ) (off : Fin 4 → Fin 8 → Fin 2 → ℕ) (inb : ∀ r c x, off r c x + S1x16.size x ≤ S128x128.size x)
    (hoff : ∀ r c, off r c = ![a + r.val, 16 * c.val]) (y : S128x128.Idx) (h0 : a ≤ (y 0).val) (h1 : (y 0).val < a + 4) :
    ∃ p : Fin 4 × Fin 8, y ∈ (Rect.unit (s := S128x128) (off p.1 p.2) S1x16.size (inb p.1 p.2)).set := by
  have hy : (y 1).val < 128 := (y 1).isLt
  refine ⟨(⟨(y 0).val - a, by omega⟩, ⟨(y 1).val / 16, by omega⟩), ?_⟩
  refine (Rect.unit (s := S128x128) _ S1x16.size (inb _ _)).mem_set.mpr fun x => ?_
  match x with
  | 0 =>
    refine ⟨0, Nat.one_pos, ?_⟩
    show (y 0).val = off _ _ 0 + 1 * 0
    rw [hoff]; show (y 0).val = a + ((y 0).val - a) + 1 * 0; omega
  | 1 =>
    refine ⟨(y 1).val % 16, Nat.mod_lt _ (by decide), ?_⟩
    show (y 1).val = off _ _ 1 + 1 * ((y 1).val % 16)
    rw [hoff]; show (y 1).val = 16 * ((y 1).val / 16) + 1 * ((y 1).val % 16); omega

theorem coverA (t : Fin k0_t1_loop.trips) (y : S128x128.Idx) (h0 : 8 * t.val ≤ (y 0).val) (h1 : (y 0).val < 8 * t.val + 4) :
    ∃ x ∈ chunksA t, y ∈ x.rect.set := by
  obtain ⟨p, hp⟩ := half_cover (8 * t.val) (fun r c => offA t c (BitVec.ofNat 32 r.val)) (fun r c => offA_inb t c r) (fun r c => offA_eq t c r) y h0 h1
  exact ⟨chunkA t p.1 p.2, List.mem_map.mpr ⟨p, mem_cells p, rfl⟩, hp⟩
theorem coverB (t : Fin k0_t1_loop.trips) (y : S128x128.Idx) (h0 : 8 * t.val + 4 ≤ (y 0).val) (h1 : (y 0).val < 8 * t.val + 8) :
    ∃ x ∈ chunksB t, y ∈ x.rect.set := by
  obtain ⟨p, hp⟩ := half_cover (8 * t.val + 4) (fun r c => offB t c (BitVec.ofNat 32 r.val)) (fun r c => offB_inb t c r)
    (fun r c => (offB_eq t c r).trans (by rw [show 8 * t.val + r.val + 4 = 8 * t.val + 4 + r.val by omega])) y h0 (by omega)
  exact ⟨chunkB t p.1 p.2, List.mem_map.mpr ⟨p, mem_cells p, rfl⟩, hp⟩

theorem shapeA (t : Fin k0_t1_loop.trips) : ∀ x ∈ chunksA t, ∃ r c, r < 4 ∧ c < 8 ∧ x.r = 16 * r ∧ x.c = c ∧ x.off = ![4 * (2 * t.val) + r, 16 * c] := by
  intro x hx
  obtain ⟨p, -, rfl⟩ := List.mem_map.mp hx
  refine ⟨p.1.val, p.2.val, p.1.isLt, p.2.isLt, rfl, rfl, ?_⟩
  show offA t p.2 (BitVec.ofNat 32 p.1.val) = _
  rw [offA_eq, show 4 * (2 * t.val) = 8 * t.val by omega]
theorem shapeB (t : Fin k0_t1_loop.trips) : ∀ x ∈ chunksB t, ∃ r c, r < 4 ∧ c < 8 ∧ x.r = 16 * r ∧ x.c = c ∧ x.off = ![4 * (2 * t.val + 1) + r, 16 * c] := by
  intro x hx
  obtain ⟨p, -, rfl⟩ := List.mem_map.mp hx
  refine ⟨p.1.val, p.2.val, p.1.isLt, p.2.isLt, rfl, rfl, ?_⟩
  show offB t p.2 (BitVec.ofNat 32 p.1.val) = _
  rw [offB_eq, show 8 * t.val + p.1.val + 4 = 4 * (2 * t.val + 1) + p.1.val by omega]

section Trips

variable (tb : S32768x128.Idx → Elt F .i32) (ib : S1024x64.Idx → BitVec 32) (iv : S32x64.Idx → Elt F .i32)
  (qta qtb qia qib : PosShare TreeShare) (O : CellTallies nD τ sig (HIx 1)) (W : Waits sig (HIx 1))

/-- Before trip `t`: the first `8 t` rows are pooled, and the two streams are at lists `2 t` and `2 t + 1`. -/
def Inv (t : ℕ) : sProp 𝕄 :=
  iprop(∃ (g : Buf (Elt F) ((pV).view.loc thr)) (W' : Waits sig (HIx 1)),
    ⌜∀ y : S128x128.Idx, (y 0).val < 8 * t → (pV).view.read (Elt F) g y = blockOut tb ib (blk L) y⌝
    ∗ ⌜∀ p ∈ W', p ∈ W ∨ p.2 = none⌝
    ∗ ((pV).view.loc thr ↦[(pV).view.set]{fullShare} g)
    ∗ Slot d L tb ib iv aV cc0_scratch4 qta qia (2 * t)
    ∗ Slot d L tb ib iv bV cc0_scratch5 qtb qib (2 * t + 1)
    ∗ owes thr O W' ∗ Transfers.MayWaits thr (default : HIx 1) O)

variable {tb} {ib} {iv}

/-- One trip. -/
theorem wp_trip (hib : IbOK ib) (hiv : IvOK ib (blk L) iv) (t : Fin k0_t1_loop.trips) :
    (Inv d L tb ib iv qta qtb qia qib O W t.val : sProp 𝕄)
      ⊢ WP (trip L tV sV aV (Memref.isWhole_whole _) bV (Memref.isWhole_whole _) pV cc0_scratch4 cc0_scratch5 t)
          fun _ => Inv d L tb ib iv qta qtb qia qib O W (t.val + 1) := by
  have ht := trips_le t
  unfold Inv
  iintro ⟨%g, %W', %hg, %hW', Hp, HA, HB, HO, #Hmw⟩
  ihave HA' := (Entails.of_eq (show Slot d L tb ib iv aV cc0_scratch4 qta qia (2 * t.val) = Fly d L tb ib iv aV cc0_scratch4 qta qia (2 * t.val) by
    unfold Slot; rw [if_pos (by omega)])) $$ HA
  ihave HB' := (Entails.of_eq (show Slot d L tb ib iv bV cc0_scratch5 qtb qib (2 * t.val + 1) = Fly d L tb ib iv bV cc0_scratch5 qtb qib (2 * t.val + 1) by
    unfold Slot; rw [if_pos (by omega)])) $$ HB
  unfold trip
  iapply (wp_half d L aV cc0_scratch4 qta qia hib hiv (Memref.isWhole_whole _) (SparseCore.sum_rowCredit_eq_dmaCredit aV _ (fun _ => rfl)) (2 * t.val) (by omega) (chunksA t) (shapeA t)
    (k0_cond1 t) (cond1_iff t) (k0_off11 t) (k0_off11_inb t) (k0_off11_eq t) O W' g) $$ [Hp HA' HO]
  · isplitl [HA']; · iexact HA'
    isplitl [Hp]; · iexact Hp
    isplitl [HO]; · iexact HO
    iexact Hmw
  iintro %g' %hg' HA Hp HO
  iapply (wp_half d L bV cc0_scratch5 qtb qib hib hiv (Memref.isWhole_whole _) (SparseCore.sum_rowCredit_eq_dmaCredit bV _ (fun _ => rfl)) (2 * t.val + 1) (by omega) (chunksB t) (shapeB t)
    (k0_cond2 t) (cond2_iff t) (k0_off21 t) (k0_off21_inb t) (k0_off21_eq t) O _ g') $$ [Hp HB' HO]
  · isplitl [HB']; · iexact HB'
    isplitl [Hp]; · iexact Hp
    isplitl [HO]; · iexact HO
    iexact Hmw
  iintro %g'' %hg'' HB Hp HO
  rw [wp_ret]
  imodintro
  iexists g''
  iexists _
  isplitr
  · ipureintro
    intro y hy
    apply hg''
    by_cases h1 : 8 * t.val + 4 ≤ (y 0).val
    · exact .inl (coverB t y h1 (by omega))
    right; apply hg'
    by_cases h2 : 8 * t.val ≤ (y 0).val
    · exact .inl (coverA t y h2 (by omega))
    exact .inr (hg y (by omega))
  isplitr
  swap
  · isplitl [Hp]; · iexact Hp
    isplitl [HA]; · iexact HA
    isplitl [HB]; · iexact HB
    isplitl [HO]; · iexact HO
    iexact Hmw
  ipureintro; intro p hp
  rcases Finset.mem_insert.mp hp with hp | hp; · exact .inr (hp ▸ rfl)
  rcases Finset.mem_insert.mp hp with hp | hp; · exact .inr (hp ▸ rfl)
  exact hW' p hp

end Trips

end Cert.Proof.Pool

end
-- ==== Proof.Pool.Task.lean ====
/-
  One tile's task, from what the launch hands it to what it hands back.
-/
module

public import proofs.«01_k».proof.Proof.Pool.Tile

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The blocks -/

theorem idiv : 32 ∣ S1024x64.size 0 := ⟨32, rfl⟩
theorem odiv : 32 ∣ S4096x128.size 0 := ⟨128, rfl⟩
/-- Block `w` of the index array. -/
abbrev iPart (w : Fin 32) : Rect S1024x64 := Rect.part (s := S1024x64) (a₀ := 0) idiv w
/-- Block `w` of the output. -/
abbrev oPart (w : Fin 32) : Rect S4096x128 := Rect.part (s := S4096x128) (a₀ := 0) odiv w
/-- The elements of block `w` of the index array. -/
abbrev iSet (w : Fin 32) : Finset S1024x64.Idx := ((iV).view.slice (iPart w)).set
/-- The elements of block `w` of the output. -/
abbrev oSet (w : Fin 32) : Finset S4096x128.Idx := ((oV).view.slice (oPart w)).set
/-- Tile `w`'s share of the table. -/
abbrev tShare (w : Fin 32) : PosShare TreeShare := pieceOf fullShare 32 (by decide) w

section Res

variable (m : (ℓ : Loc nD τ sig) → Buf (Elt F) ℓ) (d : Dev nD)

/-- The table launched with. -/
abbrev tb0 : Buf (Elt F) (tLoc d) := m (tLoc d)
/-- The index array launched with. -/
abbrev ib0 : Buf (Elt F) (iLoc d) := m (iLoc d)
/-- The output the launch must leave. -/
abbrev out0 : Buf (Elt F) (oLoc d) := pooled (m (tLoc d)) (m (iLoc d))

/-- What block `w`'s tile is handed: its share of the table, its block of indices, its block of the output at `f`. -/
def Res (w : Fin 32) (f : Buf (Elt F) (oLoc d)) : sProp 𝕄 :=
  iprop((tLoc d ↦{tShare w} m (tLoc d)) ∗ (iLoc d ↦[iSet w]{fullShare} m (iLoc d)) ∗ (oLoc d ↦[oSet w]{fullShare} f))

instance Res_storable (w : Fin 32) (f : Buf (Elt F) (oLoc d)) : BI.Storable (upEmb : UEmb _ 𝕄) (Res m d w f) := by
  unfold Res; infer_instance

/-- What the proof asks of the launch memory: every index names a row of the table. -/
def PreOK : Prop := ∀ d : Dev nD, IbOK (m (iLoc d))

end Res

section Tile

variable [FloatOps F] (m : (ℓ : Loc nD τ sig) → Buf (Elt F) ℓ) (d : Dev nD) (L : grid0.Coords)

local notation "𝓉" => V d (cV L) (jV L)
local notation "WP" => wp frame (wpE (defs₀ (F := F)) 𝒱₀ (V d (cV L) (jV L)) none) Set.univ

/-- The tile's block. -/
abbrev bL (L : grid0.Coords) : Fin 32 := ⟨blk L, blk_lt L⟩
/-- The tile's block of the index array, as its program addresses it. -/
abbrev iK (L : grid0.Coords) : Memref sig .scVector .hbm S32x64 .i32 := (iV).slice (Rect.unit (s := S1024x64) (k0_off1 L) S32x64.size (k0_off1_inb L)) (fun _ => rfl)
/-- The tile's block of the output, as its program addresses it. -/
abbrev oK (L : grid0.Coords) : Memref sig .scVector .hbm S128x128 .i32 := (oV).slice (Rect.unit (s := S4096x128) (k0_off22 L) S128x128.size (k0_off22_inb L)) (fun _ => rfl)

theorem iRect_eq : Rect.unit (s := S1024x64) (k0_off1 L) S32x64.size (k0_off1_inb L) = iPart (bL L) := by
  unfold iPart Rect.part Rect.block
  congr 1 <;> funext a
  · rw [k0_off1_eq]
    match a with
    | 0 => show 64 * (L 1).val + 32 * (L 0).val = (2 * (L 1).val + (L 0).val) * 32; omega
    | 1 => show (0 : ℕ) = 0 * 64; rfl
  · match a with
    | 0 => rfl
    | 1 => rfl
theorem oRect_eq : Rect.unit (s := S4096x128) (k0_off22 L) S128x128.size (k0_off22_inb L) = oPart (bL L) := by
  unfold oPart Rect.part Rect.block
  congr 1 <;> funext a
  · rw [k0_off22_eq]
    match a with
    | 0 => show 256 * (L 1).val + 128 * (L 0).val = (2 * (L 1).val + (L 0).val) * 128; omega
    | 1 => show (0 : ℕ) = 0 * 128; rfl
  · match a with
    | 0 => rfl
    | 1 => rfl
theorem set_iK : (iK L).view.set = iSet (bL L) := by
  show ((iV).view.slice (Rect.unit (s := S1024x64) (k0_off1 L) S32x64.size (k0_off1_inb L))).set = ((iV).view.slice (iPart (bL L))).set
  exact iRect_eq L ▸ rfl
theorem set_oK : (oK L).view.set = oSet (bL L) := by
  show ((oV).view.slice (Rect.unit (s := S4096x128) (k0_off22 L) S128x128.size (k0_off22_inb L))).set = ((oV).view.slice (oPart (bL L))).set
  exact oRect_eq L ▸ rfl

/-- The index block read by the tile is its block of the index array. -/
theorem ivOK (ib : Buf (Elt F) (iLoc d)) : IvOK ib (blk L) ((iK L).view.read (Elt F) ib) := fun z => by
  have hz0 : (z 0).val < 32 := (z 0).isLt
  have hz1 : (z 1).val < 64 := (z 1).isLt
  have hb := blk_lt L
  show ib _ = ib _
  congr 1
  funext a
  apply Fin.ext
  match a with
  | 0 =>
    show k0_off1 L 0 + 1 * (z 0).val = (32 * blk L + (z 0).val) % 1024
    rw [k0_off1_eq]; show 64 * (L 1).val + 32 * (L 0).val + 1 * (z 0).val = _
    unfold blk at *; omega
  | 1 =>
    show k0_off1 L 1 + 1 * (z 1).val = (z 1).val % 64
    rw [k0_off1_eq]; show 0 + 1 * (z 1).val = _; omega

/-- The pooled rows, read where the tile stores its block, are the block's. -/
theorem out_read (tb : Buf (Elt F) (tLoc d)) (ib : Buf (Elt F) (iLoc d)) (y : S128x128.Idx) :
    (pooled tb ib : S4096x128.Idx → Elt F .i32) ((oK L).view.emb y) = blockOut tb ib (blk L) y := by
  have hz0 : (y 0).val < 128 := (y 0).isLt
  have hz1 : (y 1).val < 128 := (y 1).isLt
  have hb := blk_lt L
  unfold blockOut
  congr 1
  funext a
  apply Fin.ext
  match a with
  | 0 =>
    show k0_off22 L 0 + 1 * (y 0).val = (128 * blk L + (y 0).val) % 4096
    rw [k0_off22_eq]; show 256 * (L 1).val + 128 * (L 0).val + 1 * (y 0).val = _
    unfold blk at *; omega
  | 1 =>
    show k0_off22 L 1 + 1 * (y 1).val = (y 1).val % 128
    rw [k0_off22_eq]; show 0 + 1 * (y 1).val = _; omega

/-- The copy out of a buffer holding the block's pooled rows leaves the output's block holding them. -/
theorem out_congr (tb : Buf (Elt F) (tLoc d)) (ib : Buf (Elt F) (iLoc d)) (fo : Buf (Elt F) (oLoc d)) (v : S128x128.Idx → Elt F .i32)
    (hv : ∀ y, v y = blockOut tb ib (blk L) y) :
    ((oK L).view.loc 𝓉 ↦[(oK L).view.set]{fullShare} (oK L).view.write (Elt F) fo v Finset.univ : sProp 𝕄)
      ⊢ oLoc d ↦[oSet (bL L)]{fullShare} pooled tb ib := by
  rw [← set_oK]
  refine Entails.of_eq (pointsTo_congr fun z hz => ?_)
  obtain ⟨y, -, rfl⟩ := Finset.mem_map.mp hz
  rw [out_read, ← hv y]
  exact congrFun (View.read_write_univ (v := (oK L).view) fo v) y

/-- The cells of the tile's own semaphores. -/
abbrev cellOf (s : DmaSems sig S_) : GSem nD τ sig := (V d (cV L) (jV L), .dma s.sem)

theorem ownSems0_V :
    (ownSems0 (V d (cV L) (jV L)) : sProp 𝕄)
      = iprop(semVal (cellOf d L cc0_scratch4) 0 ∗ semVal (cellOf d L cc0_scratch5) 0 ∗ semVal (cellOf d L cc0_scoped0) 0 ∗ semVal (cellOf d L cc0_scoped1) 0
          ∗ bigSep (((((ownCells (V d (cV L) (jV L))).erase (cellOf d L cc0_scratch4)).erase (cellOf d L cc0_scratch5)).erase (cellOf d L cc0_scoped0)).erase (cellOf d L cc0_scoped1))
              fun g => semVal g 0) := by
  have ne (s s' : DmaSems sig S_) (h : (SemLoc.dma s.sem : SemLoc sig) ≠ SemLoc.dma s'.sem) : cellOf d L s ≠ cellOf d L s' :=
    fun e => h (congrArg Prod.snd e)
  have own (s : DmaSems sig S_) (h : (SemLoc.dma s.sem : SemLoc sig).isScoped .scVector = true) : cellOf d L s ∈ ownCells (V d (cV L) (jV L)) :=
    (mem_ownCells (g := cellOf d L s)).mpr ⟨rfl, h⟩
  unfold SparseCore.Cfg.ownSems0
  rw [SparseCore.bigSep_erase' (own cc0_scratch4 (by decide)),
    SparseCore.bigSep_erase' (Finset.mem_erase.mpr ⟨ne cc0_scratch5 cc0_scratch4 (by decide), own cc0_scratch5 (by decide)⟩),
    SparseCore.bigSep_erase' (Finset.mem_erase.mpr ⟨ne cc0_scoped0 cc0_scratch5 (by decide), Finset.mem_erase.mpr ⟨ne cc0_scoped0 cc0_scratch4 (by decide), own cc0_scoped0 (by decide)⟩⟩),
    SparseCore.bigSep_erase' (Finset.mem_erase.mpr ⟨ne cc0_scoped1 cc0_scoped0 (by decide), Finset.mem_erase.mpr ⟨ne cc0_scoped1 cc0_scratch5 (by decide),
      Finset.mem_erase.mpr ⟨ne cc0_scoped1 cc0_scratch4 (by decide), own cc0_scoped1 (by decide)⟩⟩⟩)]

/-- A tile's scratch reference on its device. -/
abbrev refOf (L : grid0.Coords) (r : Ref sig .scVector) : DevRef τ sig := (Proc.scVector (cV L) (jV L)).devRef r

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (refOf L cc0_scratch0)).erase (refOf L cc0_scratch1)).erase (refOf L cc0_scratch2)).erase (refOf L cc0_scratch3))
              fun b => iprop(∃ f, ((d, b) : Loc nD τ sig) ↦{fullShare} f)) := by
  have ne (r r' : Ref sig .scVector) (h : r ≠ r') : refOf L r ≠ refOf L r' := fun e => h (Proc.devRef_injective _ e)
  have own (r : Ref sig .scVector) (h : (refOf L r).owner = _) : refOf L r ∈ ownRefs (τ := τ) (.scVector (cV L) (jV L)) :=
    SparseCore.Cfg.mem_ownRefs_of_owner (p := Proc.scVector (cV L) (jV L)) (b := refOf L r) h
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide), Finset.mem_erase.mpr ⟨ne cc0_scratch2 cc0_scratch0 (by decide), own cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), own cc0_scratch3 rfl⟩⟩⟩)]

set_option maxRecDepth 16384 in
set_option maxHeartbeats 4000000 in
/-- THE TASK: from its share of the table, its block of indices and its block of the output, the tile leaves its block
    of the output holding the pooled rows, and everything else as it was. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ Res m d (bL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_pool_body L tV (Memref.isWhole_whole _) iV (Memref.isWhole_whole _) oV (Memref.isWhole_whole _)
            sV (Memref.isWhole_whole _) aV (Memref.isWhole_whole _) bV (Memref.isWhole_whole _) pV (Memref.isWhole_whole _)
            cc0_scratch4 cc0_scratch5 cc0_scoped0 cc0_scoped1)
          fun _ => iprop(Res m d (bL L) (out0 m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq]
  unfold outer Res
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fa, Ha⟩, ⟨%fb, Hb⟩, ⟨%fp, Hp⟩, Hbufs⟩, ⟨HsA, HsB, Hs0, Hs1, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦[iSet (bL L)]{fullShare} m (iLoc d) : sProp 𝕄) = (iK L).view.loc 𝓉 ↦[(iK L).view.set]{fullShare} m (iLoc d) by rw [set_iK])) $$ Hi
  ihave Ho' := (Entails.of_eq (show (oLoc d ↦[oSet (bL L)]{fullShare} m (oLoc d) : sProp 𝕄) = (oK L).view.loc 𝓉 ↦[(oK L).view.set]{fullShare} m (oLoc d) by rw [set_oK])) $$ Ho
  -- the copy in of the index block
  iapply (Transfers.wp_dmaLocal countersEmb 𝒱₀ 𝓉 none (src := iK L) (dst := sV) (sm := .dma cc0_scoped0.sem) (Sd := Finset.univ) (fd := fs)
      (default : HIx 1) (sV).view.dmaCredit rfl (by decide) (Finset.subset_univ _)) $$ [Hi' Hs Hs0]
  · isplitl [Hi']; · iexact Hi'
    isplitl [Hs]; · iexact Hs
    iexact Hs0
  iintro Hfl
  iapply (Transfers.wp_waitLocalO countersEmb 𝒱₀ 𝓉 none (default : HIx 1) (rfl : (sV).view.dmaCredit = _)) $$ [Hfl HO]
  · isplitl [Hfl]; · iexact Hfl
    isplitl [HO]; · iexact HO
    iapply (Transfers.MayWaits.elim (SemLoc.dma cc0_scoped0.sem)) $$ Hmw
  iintro ⟨⟨Hs, Hi'⟩, Hs0, HO⟩
  ihave Hs' := (Entails.of_eq (show ((sV).view.loc 𝓉 ↦{fullShare} (sV).view.write (Elt F) fs ((iK L).view.read (Elt F) (m (iLoc d))) Finset.univ : sProp 𝕄)
      = (sV).view.loc 𝓉 ↦{fullShare} ((iK L).view.read (Elt F) (m (iLoc d))) by rw [View.write_whole_univ])) $$ Hs
  have hiv := ivOK (F := F) d L (m (iLoc d))
  generalize (iK L).view.read (Elt F) (m (iLoc d)) = iv at hiv
  -- the two streams' halves of the table's share and of the index block
  ihave Hs2 := (pointsTo_share (PosShare.mem_left_op_right fullShare)).1 $$ Hs'
  icases Hs2 with ⟨HsL, HsR⟩
  ihave Ht2 := (pointsTo_share (PosShare.mem_left_op_right (tShare (bL L)))).1 $$ Ht
  icases Ht2 with ⟨HtL, HtR⟩
  ihave Ha' := (Entails.of_eq (show ((𝓉).loc cc0_scratch1 ↦{fullShare} fa : sProp 𝕄) = (aV).view.loc 𝓉 ↦[(aV).view.set]{fullShare} fa by
    rw [show (aV).view.set = Finset.univ from View.set_whole _])) $$ Ha
  ihave Hb' := (Entails.of_eq (show ((𝓉).loc cc0_scratch2 ↦{fullShare} fb : sProp 𝕄) = (bV).view.loc 𝓉 ↦[(bV).view.set]{fullShare} fb by
    rw [show (bV).view.set = Finset.univ from View.set_whole _])) $$ Hb
  ihave Hp' := (Entails.of_eq (show ((𝓉).loc cc0_scratch3 ↦{fullShare} fp : sProp 𝕄) = (pV).view.loc 𝓉 ↦[(pV).view.set]{fullShare} fp by
    rw [show (pV).view.set = Finset.univ from View.set_whole _])) $$ Hp
  iapply (wp_gather d L aV cc0_scratch4 (tShare (bL L)).left fullShare.left (hpre d) hiv (SparseCore.sum_rowCredit_eq_dmaCredit aV _ (fun _ => rfl)) ![0, 0] _ 0 rfl) $$ [Ha' HtL HsL HsA]
  · unfold Idle
    isplitl [Ha']; · iexists fa; iexact Ha'
    isplitl [HtL]; · iexact HtL
    isplitl [HsL] <;> iassumption
  iintro HA
  iapply (wp_gather d L bV cc0_scratch5 (tShare (bL L)).right fullShare.right (hpre d) hiv (SparseCore.sum_rowCredit_eq_dmaCredit bV _ (fun _ => rfl)) ![1, 0] _ 1 rfl) $$ [Hb' HtR HsR HsB]
  · unfold Idle
    isplitl [Hb']; · iexists fb; iexact Hb'
    isplitl [HtR]; · iexact HtR
    isplitl [HsR] <;> iassumption
  iintro HB
  -- the trips
  iapply (Scf.wp_for_bind frame (wpE (defs₀ (F := F)) 𝒱₀ 𝓉 none) Set.univ k0_t1_loop.lb k0_t1_loop.ub k0_t1_loop.st k0_t1_ok PUnit.unit _
      (fun t _ => Inv d L (m (tLoc d)) (m (iLoc d)) iv (tShare (bL L)).left (tShare (bL L)).right fullShare.left fullShare.right O W t)
      (fun t _ => wp_trip d L _ _ _ _ O W (hpre d) hiv t)) $$ [Hp' HA HB HO]
  · unfold Inv
    iexists fp; iexists _
    isplitr
    · ipureintro; intro y hy; omega
    isplitr
    swap
    · isplitl [Hp']; · iexact Hp'
      isplitl [HA]; · unfold Slot; rw [if_pos (by decide)]; iexact HA
      isplitl [HB]; · unfold Slot; rw [if_pos (by decide)]; iexact HB
      isplitl [HO]; · iexact HO
      iexact Hmw
    ipureintro; intro p hp
    rcases Finset.mem_insert.mp hp with hp | hp; · exact .inr (hp ▸ rfl)
    exact .inl hp
  iintro %acc HI
  ihave HI' := (Entails.of_eq (show Inv d L (m (tLoc d)) (m (iLoc d)) iv (tShare (bL L)).left (tShare (bL L)).right fullShare.left fullShare.right O W k0_t1_loop.trips
      = Inv d L (m (tLoc d)) (m (iLoc d)) iv (tShare (bL L)).left (tShare (bL L)).right fullShare.left fullShare.right O W 16 by rw [trips_eq])) $$ HI
  unfold Inv Slot Idle
  rw [if_neg (show ¬ 2 * 16 < 32 by decide), if_neg (show ¬ 2 * 16 + 1 < 32 by decide)]
  icases HI' with ⟨%g, %W', %hg, %hW', Hp, ⟨⟨%fa', Ha⟩, HtL, HsL, HsA⟩, ⟨⟨%fb', Hb⟩, HtR, HsR, HsB⟩, HO, -⟩
  ihave Hs := (pointsTo_share (PosShare.mem_left_op_right fullShare)).2 $$ [HsL HsR]
  · isplitl [HsL] <;> iassumption
  ihave Ht := (pointsTo_share (PosShare.mem_left_op_right (tShare (bL L)))).2 $$ [HtL HtR]
  · isplitl [HtL] <;> iassumption
  -- the copy out of the pooled rows
  iapply (Transfers.wp_dmaLocal countersEmb 𝒱₀ 𝓉 none (src := pV) (dst := oK L) (sm := .dma cc0_scoped1.sem) (Sd := (oK L).view.set) (fd := m (oLoc d))
      (default : HIx 1) (oK L).view.dmaCredit rfl (show 0 < (pV).view.dmaCredit by decide) (Finset.Subset.refl _)) $$ [Hp Ho' Hs1]
  · isplitl [Hp]; · iexact Hp
    isplitl [Ho']; · iexact Ho'
    iexact Hs1
  iintro Hfl
  iapply (Transfers.wp_waitLocalO countersEmb 𝒱₀ 𝓉 none (default : HIx 1) (rfl : (oK L).view.dmaCredit = _)) $$ [Hfl HO]
  · isplitl [Hfl]; · iexact Hfl
    isplitl [HO]; · iexact HO
    iapply (Transfers.MayWaits.elim (SemLoc.dma cc0_scoped1.sem)) $$ Hmw
  iintro ⟨⟨Ho, Hp⟩, Hs1, HO⟩
  rw [wp_ret]
  imodintro
  isplitl [Ht Hi' Ho]
  · isplitl [Ht]; · iexact Ht
    isplitl [Hi']
    · iapply (Entails.of_eq (show (iLoc d ↦[iSet (bL L)]{fullShare} m (iLoc d) : sProp 𝕄) = (iK L).view.loc 𝓉 ↦[(iK L).view.set]{fullShare} m (iLoc d) by rw [set_iK]).symm)
      iexact Hi'
    iapply (out_congr d L (m (tLoc d)) (m (iLoc d)) (m (oLoc d)) ((pV).view.read (Elt F) g) (fun y => hg y (y 0).isLt))
    iexact Ho
  isplitl [Hs Ha Hb Hp Hbufs]
  · isplitl [Hs]; · iexists _; iexact Hs
    isplitl [Ha]
    · iexists fa'
      iapply (Entails.of_eq (show ((𝓉).loc cc0_scratch1 ↦{fullShare} fa' : sProp 𝕄) = (aV).view.loc 𝓉 ↦[(aV).view.set]{fullShare} fa' by
        rw [show (aV).view.set = Finset.univ from View.set_whole _]).symm); iexact Ha
    isplitl [Hb]
    · iexists fb'
      iapply (Entails.of_eq (show ((𝓉).loc cc0_scratch2 ↦{fullShare} fb' : sProp 𝕄) = (bV).view.loc 𝓉 ↦[(bV).view.set]{fullShare} fb' by
        rw [show (bV).view.set = Finset.univ from View.set_whole _]).symm); iexact Hb
    isplitl [Hp]
    · iexists g
      iapply (Entails.of_eq (show ((𝓉).loc cc0_scratch3 ↦{fullShare} g : sProp 𝕄) = (pV).view.loc 𝓉 ↦[(pV).view.set]{fullShare} g by
        rw [show (pV).view.set = Finset.univ from View.set_whole _]).symm); iexact Hp
    iexact Hbufs
  isplitl [HsA HsB Hs0 Hs1 Hsems]
  · isplitl [HsA]; · iexact HsA
    isplitl [HsB]; · iexact HsB
    isplitl [Hs0]; · iexact Hs0
    isplitl [Hs1]; · iexact Hs1
    iexact Hsems
  iexists _; isplitr
  swap; · iexact HO
  ipureintro; intro p hp
  rcases Finset.mem_insert.mp hp with hp | hp; · exact .inr (hp ▸ rfl)
  exact hW' p hp

end Tile

end Cert.Proof.Pool

end
-- ==== Proof.Pool.Launch.lean ====
/-
  The launch: the arrays dealt to the tiles and gathered from them, `@main`, and the whole program's run.
-/
module

public import proofs.«01_k».proof.Proof.Pool.Task

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- The block of tile `i` of core `c`. -/
def wOf (c i : ℕ) : Fin 32 := ⟨(2 * i + c) % 32, Nat.mod_lt _ (by decide)⟩

/-- The one call takes every tile's resources, and brings them back with the output pooled. -/
def P : (K (F := F)).Pay (nD := nD) (Val := Elt F) (Name := ℕ) (U := UU) where
  st := fun _ d c => bigSep Finset.univ fun i : Fin 16 => Res m d (wOf c.val i.val) (m (oLoc d))
  dn := fun _ d c => bigSep Finset.univ fun i : Fin 16 => Res m d (wOf c.val i.val) (out0 m d)
  go := fun _ d c i => Res m d (wOf c.val i.val) (m (oLoc d))
  td := fun _ d c i => Res m d (wOf c.val i.val) (out0 m d)
  x := fun _ _ => iprop(emp)

instance P_storable : (P (F := F) m).IsStorable where
  st _ d c := (inferInstance : BI.Storable (upEmb : UEmb _ 𝕄) (bigSep Finset.univ fun i : Fin 16 => Res m d (wOf c.val i.val) (m (oLoc d))))
  dn _ d c := (inferInstance : BI.Storable (upEmb : UEmb _ 𝕄) (bigSep Finset.univ fun i : Fin 16 => Res m d (wOf c.val i.val) (out0 m d)))
  go _ d c i := (inferInstance : BI.Storable (upEmb : UEmb _ 𝕄) (Res m d (wOf c.val i.val) (m (oLoc d))))
  td _ d c i := (inferInstance : BI.Storable (upEmb : UEmb _ 𝕄) (Res m d (wOf c.val i.val) (out0 m d)))

/-! ## The tiles' obligation -/

/-- The grid coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool_body (coordsV c s)
          tV (Memref.isWhole_whole _) iV (Memref.isWhole_whole _) oV (Memref.isWhole_whole _)
          sV (Memref.isWhole_whole _) aV (Memref.isWhole_whole _) bV (Memref.isWhole_whole _) pV (Memref.isWhole_whole _)
          cc0_scratch4 cc0_scratch5 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem bL_coordsV (c : Fin (grid0.bound 0)) (s : Fin (grid0.bound 1)) : bL (coordsV c s) = wOf c.val s.val := by
  have hc : c.val < 2 := c.isLt
  have hs : s.val < 16 := s.isLt
  apply Fin.ext
  show 2 * s.val + c.val = (2 * s.val + c.val) % 32
  omega

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have e := (tile_body m d (coordsV ⟨_, hci.1⟩ ⟨_, hci.2⟩) hF hpre O W hO).trans (wp_mono frame _ _ fun _ => obl_post (q := 0))
  rw [bL_coordsV] at e
  exact e

/-! ## The arrays dealt out -/

theorem iSet_eq (w : Fin 32) : iSet w = (iPart w).set := by
  show ((View.whole (main_arg1_scv : Ref sig .scVector)).slice (iPart w)).set = _
  rw [View.set_slice]; exact Finset.map_refl
theorem oSet_eq (w : Fin 32) : oSet w = (oPart w).set := by
  show ((View.whole (main_v0_scv : Ref sig .scVector)).slice (oPart w)).set = _
  rw [View.set_slice]; exact Finset.map_refl
theorem iSet_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem iSet_cover : (Finset.univ : Finset (Fin 32)).biUnion iSet = Finset.univ :=
  (Finset.biUnion_congr rfl fun i _ => iSet_eq i).trans (Rect.biUnion_part idiv)
theorem oSet_cover : (Finset.univ : Finset (Fin 32)).biUnion oSet = Finset.univ :=
  (Finset.biUnion_congr rfl fun i _ => oSet_eq i).trans (Rect.biUnion_part odiv)

theorem iPts_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl
theorem tPts_parts (d : Dev nD) (f : Buf (Elt F) (tLoc d)) :
    (tLoc d ↦{fullShare} f : sProp 𝕄) = bigSep Finset.univ fun w : Fin 32 => tLoc d ↦{tShare w} f :=
  pointsTo_piecesOf Finset.univ f (by decide) fullShare

/-- The three arrays are the blocks' resources. -/
theorem parts (d : Dev nD) (f : Buf (Elt F) (oLoc d)) :
    (iprop((tLoc d ↦{fullShare} m (tLoc d)) ∗ (iLoc d ↦{fullShare} m (iLoc d)) ∗ (oLoc d ↦{fullShare} f)) : sProp 𝕄)
      = bigSep Finset.univ fun w : Fin 32 => Res m d w f := by
  unfold Res
  rw [bigSep_sep', bigSep_sep', ← tPts_parts, ← iPts_parts, ← oPts_parts]

/-- The tiles, core by core, are the blocks. -/
def tiles : Fin 2 × Fin 16 ≃ Fin 32 where
  toFun p := wOf p.1.val p.2.val
  invFun w := (⟨w.val % 2, Nat.mod_lt _ (by decide)⟩, ⟨w.val / 2, by omega⟩)
  left_inv := by decide
  right_inv := by decide

/-- The three arrays are the tiles' resources, core by core. -/
theorem dealt (d : Dev nD) (f : Buf (Elt F) (oLoc d)) :
    (iprop((tLoc d ↦{fullShare} m (tLoc d)) ∗ (iLoc d ↦{fullShare} m (iLoc d)) ∗ (oLoc d ↦{fullShare} f)) : sProp 𝕄)
      = bigSep Finset.univ fun c : Fin 2 => bigSep Finset.univ fun i : Fin 16 => Res m d (wOf c.val i.val) f := by
  rw [parts, bigSep_univ_equiv tiles, bigSep_univ_prod]; rfl

theorem vecSplit : (K (F := F)).VecSplit' (P m) 0 := by
  intro d c
  show (bigSep Finset.univ fun i : Fin 16 => Res m d (wOf c.val i.val) (m (oLoc d))) ⊢ |={Set.univ}=> iprop(
      (bigSep Finset.univ fun i : Fin 16 => Res m d (wOf c.val i.val) (m (oLoc d)))
      ∗ ((bigSep Finset.univ fun i : Fin 16 => Res m d (wOf c.val i.val) (out0 m d))
          -∗ bigSep Finset.univ fun i : Fin 16 => Res m d (wOf c.val i.val) (out0 m d)))
  iintro H; imodintro
  isplitl [H]; · iexact H
  iintro H; iexact H

/-! ## The launch element of the certificate's ghost state -/

/-- The handshakes' cells at their start. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((tLoc d ↦{fullShare} m (tLoc d)) ∗ (iLoc d ↦{fullShare} m (iLoc d)) ∗ (oLoc d ↦{fullShare} m (oLoc d))) := (dealt m d _).symm
theorem dn0_eq (d : Dev nD) : (bigSep Finset.univ fun c : Fin ((K (F := F)).nCore 0) => (P m).dn 0 d c)
    = iprop((tLoc d ↦{fullShare} m (tLoc d)) ∗ (iLoc d ↦{fullShare} m (iLoc d)) ∗ (oLoc d ↦{fullShare} out0 m d)) := (dealt m d _).symm

/-- What `@main` ends with: the arguments as launched, the output pooled. -/
abbrev FIN (d : Dev nD) : sProp 𝕄 := iprop((tLoc d ↦{fullShare} m (tLoc d)) ∗ (iLoc d ↦{fullShare} m (iLoc d)) ∗ (oLoc d ↦{fullShare} out0 m d))

/-- `@main` on device `d`: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  iapply ((K (F := F)).wp_run (D (F := F)) 𝒱 (EH := EH) (P := P m) κ d 0) $$ [Hst H Hb Hts]
  isplitr; · iexact Hctx
  isplitl [Hst]; · iexact Hst
  isplitl [H]
  · rw [st0_eq]
    iexact H
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What the final memory holds. -/
def fq (d : Dev nD) (s' : Phys nD τ sig (Elt F)) : Prop :=
  s'.mem.mem (tLoc d) = m (tLoc d) ∧ s'.mem.mem (iLoc d) = m (iLoc d) ∧ s'.mem.mem (oLoc d) = out0 m d

set_option maxRecDepth 16384 in
theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := out0 m d)) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The program's run -/

/-- The run's claim: the arguments unchanged, the output pooled, every counter zero. -/
def QC : PUnit × MemSt nD τ sig (Elt F) → Prop := fun r =>
  (∀ c : Dev nD, r.2.mem (tLoc c) = m (tLoc c) ∧ r.2.mem (iLoc c) = m (iLoc c) ∧ r.2.mem (oLoc c) = out0 m c) ∧ r.2.sem = fun _ => 0

/-- THE RUN: with every index in range, the kernel leaves the pooled rows of the table, whatever the floats are. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool

end
-- ==== Proof.Pool.Reference.lean ====
/-
  What the reference computes: `jnp.take` of the rows that the index array names, the unsigned maxima of their low and
  high halves over the sixteen neighbours, packed again — the same array as `pooled`.
-/
module

public import proofs.«01_k».proof.Proof.Pool.Gathered
public import proofs.«01_k».proof.Proof.Gen.ReferenceIdeal.Run
public import Idealize.ShloMosaic.Lib.ReduceAll
public import Idealize.ShloMosaic.Lib.ValueIdx
public import Idealize.ShloMosaic.Lib.WordCmp
public import Idealize.ShloMosaic.Lib.Pipeline.Value
public import Idealize.ShloMosaic.Lib.Pointwise.Reshape

@[expose] public section

noncomputable section

namespace Cert.Proof.Pool.Ref

open Cert.ReferenceIdeal Cert.ReferenceIdeal.Gen
open Idealize.ShloMosaic Idealize.ShloMosaic.TcCoe Idealize.SL.Sem

/-! ## The start indices -/

/-- The index array with one row per pooled row. -/
def flat (ib : S1024x64.Idx → BitVec 32) : IVec S4096x16 32 := shapeCast _ ib shapeCasts_S1024x64_S4096x16

/-- Neighbour `k` of pooled row `q` stands in row `q / 4` of the index array. -/
theorem flat_apply (ib : S1024x64.Idx → BitVec 32) (j : S4096x16.Idx) :
    flat ib j = ib (iIx ((j 0).val / 4) (16 * ((j 0).val % 4) + (j 1).val)) := by
  have h0 : (j 0).val < 4096 := (j 0).isLt
  have h1 : (j 1).val < 16 := (j 1).isLt
  refine shapeCast_apply ib _ j _ ?_
  rw [rowMajor_val2 _ 64 rfl, rowMajor_val2 _ 16 rfl]
  show (j 0).val / 4 % 1024 * 64 + (16 * ((j 0).val % 4) + (j 1).val) % 64 = (j 0).val * 16 + (j 1).val
  omega

/-- The start indices that the gather takes: a negative index counts from the end. -/
def starts (ib : S1024x64.Idx → BitVec 32) : IVec S4096x16x1 32 :=
  broadcastInDim S4096x16x1 ![0, 1] bcast_S4096x16_S4096x16x1_0_1
    (select (cmpi .slt (flat ib) (broadcastInDim S4096x16 ![] bcast_S_S4096x16 (constantI S_ 32 0#32)))
      (addi (flat ib) (broadcastInDim S4096x16 ![] bcast_S_S4096x16 (constantI S_ 32 32768#32))) (flat ib))

/-- A word below 32768 is not negative. -/
theorem toInt_of_lt {v : BitVec 32} (h : v.toNat < 32768) : v.toInt = (v.toNat : ℤ) := by
  rw [BitVec.toInt_eq_toNat_cond]; omega

/-- With every index in range, the start index is the index itself. -/
theorem starts_apply {ib : S1024x64.Idx → BitVec 32} (hib : IbOK ib) (j : S4096x16x1.Idx) :
    starts ib j = ib (iIx ((j 0).val / 4) (16 * ((j 0).val % 4) + (j 1).val)) := by
  have e : starts ib j = (select (cmpi .slt (flat ib) (broadcastInDim S4096x16 ![] bcast_S_S4096x16 (constantI S_ 32 0#32)))
      (addi (flat ib) (broadcastInDim S4096x16 ![] bcast_S_S4096x16 (constantI S_ 32 32768#32))) (flat ib))
      (ValueIdx.ix2 ⟨(j 0).val, (j 0).isLt⟩ ⟨(j 1).val, (j 1).isLt⟩) := by
    refine broadcastInDim_apply _ _ _ j _ fun a => ?_
    match a with
    | 0 => rfl
    | 1 => rfl
  have hf := flat_apply ib (ValueIdx.ix2 ⟨(j 0).val, (j 0).isLt⟩ ⟨(j 1).val, (j 1).isLt⟩)
  have hv := hib (iIx ((j 0).val / 4) (16 * ((j 0).val % 4) + (j 1).val))
  rw [e]
  show Scalar.select (IntOp.cmpi .slt (flat ib _) 0#32) _ (flat ib _) = _
  have hc : IntOp.cmpi .slt (flat ib (ValueIdx.ix2 ⟨(j 0).val, (j 0).isLt⟩ ⟨(j 1).val, (j 1).isLt⟩)) 0#32 = 0#1 := by
    rw [hf, WordCmp.cmpi_slt_eq, WordCmp.ofBool_decide_eq_zero_iff]
    have := toInt_of_lt hv
    simp only [BitVec.toInt_zero]
    exact not_lt.mpr (by rw [show BitVec.toInt _ = _ from this]; omega)
  rw [hc]
  exact hf

/-! ## The rows taken -/

/-- Whether a start index is in range. -/
def inRange (ib : S1024x64.Idx → BitVec 32) : IVec S4096x16x1 1 :=
  andi (cmpi .sge (starts ib) (broadcastInDim S4096x16x1 ![] bcast_S_S4096x16x1 (constantI S_ 32 0#32)))
    (cmpi .sle (starts ib) (broadcastInDim S4096x16x1 ![0, 1, 2] bcast_S1x1x1_S4096x16x1_0_1_2 (broadcastInDim S1x1x1 ![2] bcast_S1_S1x1x1_2 (constantI S1 32 32767#32))))

theorem inRange_apply {ib : S1024x64.Idx → BitVec 32} (hib : IbOK ib) (j : S4096x16x1.Idx) : inRange ib j = 1#1 := by
  have hv := hib (iIx ((j 0).val / 4) (16 * ((j 0).val % 4) + (j 1).val))
  have ht := toInt_of_lt hv
  show IntOp.andi (IntOp.cmpi .sge (starts ib j) 0#32) (IntOp.cmpi .sle (starts ib j) 32767#32) = 1#1
  rw [starts_apply hib, WordCmp.cmpi_sge_eq, WordCmp.cmpi_sle_eq, WordCmp.andi_ofBool, WordCmp.ofBool_eq_one_iff, Bool.and_eq_true,
    decide_eq_true_eq, decide_eq_true_eq, show BitVec.toInt _ = _ from ht, show (0#32).toInt = 0 from rfl, show (32767#32).toInt = 32767 from rfl]
  omega

/-- The rows that `jnp.take` returns; a start index out of range gives all ones. -/
def taken (tb : S32768x128.Idx → BitVec 32) (ib : S1024x64.Idx → BitVec 32) : IVec S4096x16x128 32 :=
  select (broadcastInDim S4096x16x128 ![0, 1] bcast_S4096x16_S4096x16x128_0_1
      (Host.reduce IntOp.andi (inRange ib) (constantI S_ 1 1#1) reducesTo_S4096x16x1_S4096x16_d2 h_S_))
    (Host.gather gather_S32768x128_S4096x16x1_S4096x16x128_2_0_n_n_0_2_1128 tb (starts ib))
    (broadcastInDim S4096x16x128 ![] bcast_S_S4096x16x128 (constantI S_ 32 4294967295#32))

/-- The gather of whole rows, read at an index: column `j 2` of the row that the start index names. -/
theorem gather_apply (tb : S32768x128.Idx → BitVec 32) (ix : IVec S4096x16x1 32) (j : S4096x16x128.Idx) (v : BitVec 32) (hv : v.toNat < 32768)
    (hix : ∀ i : S4096x16x1.Idx, (i 0).val = (j 0).val → (i 1).val = (j 1).val → ix i = v) :
    Host.gather gather_S32768x128_S4096x16x1_S4096x16x128_2_0_n_n_0_2_1128 tb ix j = tb (tIx v.toNat (j 2).val) := by
  have h2 : (j 2).val < 128 := (j 2).isLt
  unfold Host.gather
  congr 1
  funext a
  apply Fin.ext
  show GatherDims.start _ j ix a + GatherDims.batchCoord _ j a + GatherDims.offCoord _ j a = _
  match a with
  | 0 =>
    rw [GatherDims.batchCoord_eq_zero _ _ _ (fun h => by cases h),
      GatherDims.offCoord_eq_zero _ _ _ (fun h => ((GatherDims.mem_sKept _ _).mp h).1 (List.mem_singleton.mpr rfl))]
    unfold GatherDims.start
    rw [dif_pos (show (0 : Fin 2) ∈ gather_S32768x128_S4096x16x1_S4096x16x128_2_0_n_n_0_2_1128.startIndexMap from List.mem_singleton.mpr rfl), hix _ rfl rfl, show BitVec.toInt v = _ from toInt_of_lt hv]
    show min ((v.toNat : ℤ).toNat) 32767 + 0 + 0 = v.toNat % 32768
    rw [Int.toNat_natCast]; omega
  | 1 =>
    rw [GatherDims.batchCoord_eq_zero _ _ _ (fun h => by cases h)]
    unfold GatherDims.start
    rw [dif_neg (show ¬(1 : Fin 2) ∈ gather_S32768x128_S4096x16x1_S4096x16x128_2_0_n_n_0_2_1128.startIndexMap from fun h => absurd (List.mem_singleton.mp h) (by decide))]
    show 0 + 0 + (j 2).val = (j 2).val % 128
    omega

/-- With every index in range, the rows taken are the table's rows that the index array names. -/
theorem taken_apply (tb : S32768x128.Idx → BitVec 32) {ib : S1024x64.Idx → BitVec 32} (hib : IbOK ib) (j : S4096x16x128.Idx) :
    taken tb ib j = tb (tIx (ib (iIx ((j 0).val / 4) (16 * ((j 0).val % 4) + (j 1).val))).toNat (j 2).val) := by
  have hm : broadcastInDim S4096x16x128 ![0, 1] bcast_S4096x16_S4096x16x128_0_1
      (Host.reduce IntOp.andi (inRange ib) (constantI S_ 1 1#1) reducesTo_S4096x16x1_S4096x16_d2 h_S_) j = 1#1 :=
    Host.reduce_andi_one _ _ _ _ _ rfl fun i => inRange_apply hib i
  unfold taken
  rw [WordCmp.select_at, hm, ValueIdx.select_one]
  refine gather_apply tb (starts ib) j _ (hib _) fun i e0 e1 => ?_
  rw [starts_apply hib, e0, e1]

/-! ## The maxima over the neighbours -/

theorem maxui_zero (v : BitVec 32) : IntOp.maxui v 0#32 = v := by
  unfold IntOp.maxui
  split
  · rfl
  · rename_i h
    have : ¬(0#32).toNat < v.toNat := fun h' => h (by simpa [BitVec.ult] using h')
    exact BitVec.eq_of_toNat_eq (by simp only [BitVec.toNat_ofNat, Nat.reducePow, Nat.zero_mod] at this ⊢; omega)

/-- The maximum over `Fin (n + 1)`, started at zero, is `maxTo`. -/
theorem fold_maxui (f : ℕ → BitVec 32) : ∀ n : ℕ,
    (Finset.univ : Finset (Fin (n + 1))).fold IntOp.maxui 0#32 (fun k => f k.val) = maxTo f n
  | 0 => by
    show (Finset.univ : Finset (Fin 1)).fold IntOp.maxui 0#32 (fun k => f k.val) = f 0
    rw [Finset.univ_unique, Finset.fold_singleton]
    exact maxui_zero _
  | n + 1 => by
    rw [Fin.univ_castSuccEmb, Finset.fold_cons, Finset.fold_map]
    show IntOp.maxui (f (n + 1)) ((Finset.univ : Finset (Fin (n + 1))).fold IntOp.maxui 0#32 (fun k => f k.val)) = IntOp.maxui (maxTo f n) (f (n + 1))
    rw [fold_maxui f n]
    exact Std.Commutative.comm _ _

/-- Element `(q, k, c)` of the rows taken. -/
def rIx (q k c : ℕ) : S4096x16x128.Idx := fun
  | 0 => ⟨q % 4096, Nat.mod_lt _ (by decide)⟩ | 1 => ⟨k % 16, Nat.mod_lt _ (by decide)⟩ | 2 => ⟨c % 128, Nat.mod_lt _ (by decide)⟩

/-- The reference's maximum over the neighbours, read at an index. -/
theorem reduce_apply (x : S4096x16x128.Idx → BitVec 32) (z : S4096x128.Idx) :
    Host.reduce IntOp.maxui x (constantI S_ 32 0#32) reducesTo_S4096x16x128_S4096x128_d1 h_S_ z
      = maxTo (fun k => x (rIx (z 0).val k (z 1).val)) 15 := by
  have h0 : (z 0).val < 4096 := (z 0).isLt
  have h1 : (z 1).val < 128 := (z 1).isLt
  have hr : S4096x16x128.Reduces [1] S4096x128 := by decide
  rw [Host.reduce_eq_fold_single IntOp.maxui x _ reducesTo_S4096x16x128_S4096x128_d1 hr h_S_ z, ← fold_maxui]
  refine congrArg (fun g : Fin 16 → BitVec 32 => (Finset.univ : Finset (Fin 16)).fold IntOp.maxui 0#32 g) (funext fun k => ?_)
  have hk : k.val < 16 := k.isLt
  refine congrArg x (funext fun c => Fin.ext ?_)
  match c with
  | 0 => show (z 0).val = (z 0).val % 4096; omega
  | 1 => show k.val = k.val % 16; omega
  | 2 => show (z 1).val = (z 1).val % 128; omega

variable {F : FTy → Type} [FloatOps F]

/-- THE REFERENCE'S RESULT: with every index in range, the pooled table. -/
theorem res_eq (m : (ℓ : Loc nD τ sig) → Buf (Elt F) ℓ) (c : Dev nD) (hib : IbOK (m ((c.tc : Thread nD τ).loc main_arg1))) :
    Value.res_out0 m c = pooled (m ((c.tc : Thread nD τ).loc main_arg0)) (m ((c.tc : Thread nD τ).loc main_arg1)) := by
  have e : Value.res_out0 m c = ori
      (Host.reduce IntOp.maxui (andi (taken (m ((c.tc : Thread nD τ).loc main_arg0)) (m ((c.tc : Thread nD τ).loc main_arg1))) (broadcastInDim S4096x16x128 ![] bcast_S_S4096x16x128 (constantI S_ 32 65535#32)))
        (constantI S_ 32 0#32) reducesTo_S4096x16x128_S4096x128_d1 h_S_)
      (Host.shli (Host.reduce IntOp.maxui (Host.shrui (taken (m ((c.tc : Thread nD τ).loc main_arg0)) (m ((c.tc : Thread nD τ).loc main_arg1))) (broadcastInDim S4096x16x128 ![] bcast_S_S4096x16x128 (constantI S_ 32 16#32)))
        (constantI S_ 32 0#32) reducesTo_S4096x16x128_S4096x128_d1 h_S_) (broadcastInDim S4096x128 ![] bcast_S_S4096x128 (constantI S_ 32 16#32))) := rfl
  rw [e]
  funext z
  have h0 : (z 0).val < 4096 := (z 0).isLt
  have h1 : (z 1).val < 128 := (z 1).isLt
  show IntOp.ori _ (IntOp.shli .host _ 16#32) = _
  rw [reduce_apply, reduce_apply, ValueIdx.shli_host]
  have hw : ∀ k, k ≤ 15 → taken (m ((c.tc : Thread nD τ).loc main_arg0)) (m ((c.tc : Thread nD τ).loc main_arg1)) (rIx (z 0).val k (z 1).val)
      = m ((c.tc : Thread nD τ).loc main_arg0) (tIx (m ((c.tc : Thread nD τ).loc main_arg1) (iIx ((z 0).val / 4) (16 * ((z 0).val % 4) + k))).toNat (z 1).val) := by
    intro k hk
    rw [taken_apply _ hib]
    show m ((c.tc : Thread nD τ).loc main_arg0) (tIx (m ((c.tc : Thread nD τ).loc main_arg1) (iIx ((z 0).val % 4096 / 4) (16 * ((z 0).val % 4096 % 4) + k % 16))).toNat ((z 1).val % 128)) = _
    rw [Nat.mod_eq_of_lt h0, Nat.mod_eq_of_lt h1, Nat.mod_eq_of_lt (show k < 16 by omega)]
  refine congrArg₂ IntOp.ori (maxTo_congr 15 fun k hk => ?_) (congrArg (fun w => IntOp.shli .vector w 16#32) (maxTo_congr 15 fun k hk => ?_))
  · show IntOp.andi (taken _ _ _) 65535#32 = _
    rw [hw k hk]
  · show IntOp.shrui .host (taken _ _ _) 16#32 = _
    rw [hw k hk, ValueIdx.shrui_host]

/-- The reference's run: the pooled table, the arguments unchanged, every counter at zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v10) = Value.res_out0 m c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) r.2⟩) (Value.run m ρ)

end Cert.Proof.Pool.Ref

end
-- ==== Proof.Pool.Pre.lean ====
/-
  The precondition read back: every index names a row of the table.
-/
module

public import proofs.«01_k».proof.Proof.Pool.Gathered
public import proofs.«01_k».proof.Proof.Gen.Pre_pre
public import Idealize.ShloMosaic.Lib.ReduceAll
public import Idealize.ShloMosaic.Lib.WordCmp

@[expose] public section

noncomputable section

namespace Cert.Proof.Pool

open Cert.Pre_pre Cert.Pre_pre.Gen
open Idealize.ShloMosaic Idealize.SL.Sem

/-- A word that is not negative and below 32768 as a signed number is below 32768 as a natural number. -/
theorem toNat_lt_of_bits (v : BitVec 32) (h : IntOp.andi (IntOp.cmpi .sge v 0#32) (IntOp.cmpi .slt v 32768#32) = 1#1) : v.toNat < 32768 := by
  rw [WordCmp.cmpi_sge_eq, WordCmp.cmpi_slt_eq, WordCmp.andi_ofBool, WordCmp.ofBool_eq_one_iff, Bool.and_eq_true,
    decide_eq_true_eq, decide_eq_true_eq, show (0#32).toInt = 0 from rfl, show (32768#32).toInt = 32768 from rfl,
    BitVec.toInt_eq_toNat_cond] at h
  have := v.isLt
  omega

/-- The precondition holds only of index arrays whose every entry is below 32768. -/
theorem ok_of_pre {F : FTy → Type} [FloatOps F] (tb : IVec S32768x128 32) (ib : IVec S1024x64 32)
    (h : Cert.Pre_pre.fn (F := F) tb ib = fun _ => 1#1) : IbOK ib := by
  intro z
  have e := congrFun h (Shape.Idx.first (s := S_) h_S_)
  dsimp only [Cert.Pre_pre.fn] at e
  haveI : Subsingleton S_.Idx := ⟨fun a b => funext fun i => i.elim0⟩
  exact toNat_lt_of_bits _ (Host.reduce_andi_all _ _ _ _ _ e z)

end Cert.Proof.Pool

end
-- ==== Proof.Mm.Value.lean ====
/-
  What the matrix product call leaves: the product of every block with the weights, and the sums of the product and of
  its square over all the rows.
-/
module

public import proofs.«01_k».proof.Proof.Gen.MmIdeal.Value
public import proofs.«01_k».proof.Proof.Gen.MmReferenceIdeal.Run
public import proofs.«01_k».proof.Proof.Gen.Mm.Frame
public import proofs.«01_k».proof.Defs
public import Idealize.ShloMosaic.Lib.Pipeline.ValueKit
public import Idealize.ShloMosaic.Lib.Quiescent
public import Idealize.ShloMosaic.Lib.Pointwise

@[expose] public section

set_option maxRecDepth 16384

noncomputable section

namespace Cert.MmIdeal.Value

open Cert.MmIdeal Cert.MmIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Row `(a, r)` of `x` times row `l` of `w`. -/
def prod (x : S16x2048x256.Idx → EReal) (w : S256x256.Idx → EReal) (a : Fin 16) (r : Fin 2048) (l : Fin 256) : EReal :=
  ∑ k : Fin 256, x (ix3 a r k) * w (ix2 l k)

/-- The product of `x` with the rows of `w`. -/
def zOf (x : S16x2048x256.Idx → EReal) (w : S256x256.Idx → EReal) : S16x2048x256.Idx → EReal :=
  fun i => prod x w (i 0) (i 1) (i 2)

/-- The block that a point's window names. -/
theorem idx0 (t : Fin cfg0.N) : win0_0.index t = ![t.val, 0, 0] := by
  revert t
  exact (by decide +kernel : ∀ t : Fin grid0.N, win0_0.index t = ![t.val, 0, 0])

theorem idx1 (t : Fin cfg0.N) : win0_1.index t = ![0, 0] := by
  revert t
  exact (by decide +kernel : ∀ t : Fin grid0.N, win0_1.index t = ![0, 0])

theorem idx2 (t : Fin cfg0.N) : win0_2.index t = ![t.val, 0, 0] := by
  revert t
  exact (by decide +kernel : ∀ t : Fin grid0.N, win0_2.index t = ![t.val, 0, 0])

/-- The block product, read at an index. -/
theorem pay1_apply (x : Vec Ideal S1x2048x256 .f32) (w : Vec Ideal S256x256 .f32) (r : Fin 2048) (l : Fin 256) :
    k0_pay1 x w (ix2 r l) = ∑ k : Fin 256, x (ix3 0 r k) * w (ix2 l k) := by
  pointwise [k0_pay1]

/-- Point `t` reads block `t` of `x` and the whole of `w`. -/
theorem iblk0_apply (c : Dev nD) (t : Fin cfg0.N) (r : Fin 2048) (k : Fin 256) :
    (iblk m c 0 t : Vec Ideal S1x2048x256 .f32) (ix3 0 r k) = m ((c : Thread nD τ).loc main_arg0) (ix3 (⟨t.val, lt_of_lt_of_eq t.isLt N_0⟩ : Fin 16) r k) := by
  blk_point [iblk, V, idx0 t]

theorem iblk1_apply (c : Dev nD) (t : Fin cfg0.N) (l k : Fin 256) :
    (iblk m c 1 t : Vec Ideal S256x256 .f32) (ix2 l k) = m ((c : Thread nD τ).loc main_arg1) (ix2 l k) := by
  blk_point [iblk, V, idx1 t]

/-- What point `t` stores of the product. -/
theorem blk_eq (c : Dev nD) (t : Fin cfg0.N) (y : S1x2048x256.Idx) :
    k0_pay2 (iblk m c 0 t : Vec Ideal S1x2048x256 .f32) (iblk m c 1 t : Vec Ideal S256x256 .f32) y
      = zOf (m ((c : Thread nD τ).loc main_arg0)) (m ((c : Thread nD τ).loc main_arg1)) (((View.whole main_v0_0).slice (win0_2.rect t)).emb y) := by
  obtain ⟨a, r, l, rfl⟩ : ∃ (a : Fin 1) (r : Fin 2048) (l : Fin 256), y = ix3 a r l := ⟨y 0, y 1, y 2, eq_ix3 y⟩
  obtain rfl : a = 0 := Subsingleton.elim _ _
  have e : k0_pay2 (iblk m c 0 t : Vec Ideal S1x2048x256 .f32) (iblk m c 1 t : Vec Ideal S256x256 .f32) (ix3 0 r l)
      = k0_pay1 (iblk m c 0 t : Vec Ideal S1x2048x256 .f32) (iblk m c 1 t : Vec Ideal S256x256 .f32) (ix2 r l) := by
    unfold k0_pay2
    pointwise
  have ei : ((View.whole main_v0_0).slice (win0_2.rect t)).emb (ix3 0 r l) = (ix3 (⟨t.val, lt_of_lt_of_eq t.isLt N_0⟩ : Fin 16) r l : S16x2048x256.Idx) := by
    funext a
    apply Fin.ext
    match a with
    | 0 => blk_simp [idx2 t]; simp
    | 1 => blk_simp [idx2 t]
    | 2 => blk_simp [idx2 t]
  rw [e, ei, pay1_apply]
  show _ = prod _ _ _ r l
  unfold prod
  refine Finset.sum_congr rfl fun k _ => ?_
  rw [iblk0_apply, iblk1_apply]
  rfl

/-- The result array of the product. -/
theorem final_z (c : Dev nD) : (dats m 0 c).arrAt 2 cfg0.N
    = zOf (m ((c : Thread nD τ).loc main_arg0)) (m ((c : Thread nD τ).loc main_arg1)) := by
  refine (dats m 0 c).arrAt_eq_of_covers 2 _ (by decide +kernel) fun t hf y => ?_
  blk_simp
  rw [after0_2]
  by_cases h : t.val % 16 = 0
  · rw [outsAt0_A m c t h]
    frame_out
    exact blk_eq m c t y
  · rw [outsAt0_B m c t h]
    frame_out
    exact blk_eq m c t y

/-- What point `t` adds to the sums. -/
def term (c : Dev nD) (n : ℕ) (j : S8x256.Idx) : EReal :=
  if (j 0).val = 0 then ∑ r : Fin 2048, prod (m ((c : Thread nD τ).loc main_arg0)) (m ((c : Thread nD τ).loc main_arg1)) ⟨n % 16, Nat.mod_lt _ (by decide)⟩ r (j 1)
  else if (j 0).val = 1 then ∑ r : Fin 2048, prod (m ((c : Thread nD τ).loc main_arg0)) (m ((c : Thread nD τ).loc main_arg1)) ⟨n % 16, Nat.mod_lt _ (by decide)⟩ r (j 1)
    * prod (m ((c : Thread nD τ).loc main_arg0)) (m ((c : Thread nD τ).loc main_arg1)) ⟨n % 16, Nat.mod_lt _ (by decide)⟩ r (j 1)
  else 0

/-- The sums' store: what was there, and the sums of the point's block. -/
theorem pay4_apply (c : Dev nD) (t : Fin cfg0.N) (v : Vec Ideal S8x256 .f32) (j : S8x256.Idx) :
    k0_pay4 (iblk m c 0 t : Vec Ideal S1x2048x256 .f32) (iblk m c 1 t : Vec Ideal S256x256 .f32) v j = v j + term m c t.val j := by
  have ht : t.val < 16 := lt_of_lt_of_eq t.isLt N_0
  have hp : ∀ (r : Fin 2048) (l : Fin 256), k0_pay1 (iblk m c 0 t : Vec Ideal S1x2048x256 .f32) (iblk m c 1 t : Vec Ideal S256x256 .f32) (ix2 r l)
      = prod (m ((c : Thread nD τ).loc main_arg0)) (m ((c : Thread nD τ).loc main_arg1)) ⟨t.val % 16, Nat.mod_lt _ (by decide)⟩ r l := fun r l => by
    rw [pay1_apply]
    unfold prod
    refine Finset.sum_congr rfl fun k _ => ?_
    rw [iblk0_apply, iblk1_apply]
    congr 3
    exact Fin.ext (Nat.mod_eq_of_lt ht).symm
  pointwise [k0_pay4]
  congr 1
  unfold term
  by_cases h0 : (j 0).val = 0
  · rw [dif_pos (show (j 0).val < 1 by omega), if_pos h0]
    exact Finset.sum_congr rfl fun r _ => hp r (j 1)
  · rw [dif_neg (show ¬(j 0).val < 1 by omega), if_neg h0]
    by_cases h1 : (j 0).val = 1
    · rw [dif_pos (show (j 0).val - 1 < 1 by omega), if_pos h1]
      exact Finset.sum_congr rfl fun r _ => congrArg₂ (· * ·) (hp r (j 1)) (hp r (j 1))
    · rw [dif_neg (show ¬(j 0).val - 1 < 1 by omega), if_neg h1]

/-- What the sums' buffer holds after point `t`. -/
theorem outs_eq (c : Dev nD) (t : Fin cfg0.N) (j : S8x256.Idx) :
    (outsAt0 m c t.val t.isLt).2 j = 0 + ∑ k ∈ Finset.range (t.val % 16 + 1), term m c (16 * (t.val / 16) + k) j := by
  refine Pipeline.eq_sum_of_reset_step_apply (fun n h => (outsAt0 m c n h).2) 16 (fun _ => 0) (term m c) (fun t h j => ?_) (fun t h j => ?_) t j
  · rw [outsAt0_A m c t h]
    frame_out
    rw [pay4_apply]
    congr 1
    pointwise [k0_pay3]
  · rw [outsAt0_B m c t h]
    frame_out
    exact pay4_apply m c t _ j

/-- The sums over all the rows. -/
def stOf (x : S16x2048x256.Idx → EReal) (w : S256x256.Idx → EReal) : S8x256.Idx → EReal := fun j =>
  if (j 0).val = 0 then ∑ a : Fin 16, ∑ r : Fin 2048, prod x w a r (j 1)
  else if (j 0).val = 1 then ∑ a : Fin 16, ∑ r : Fin 2048, prod x w a r (j 1) * prod x w a r (j 1)
  else 0

/-- Point `a` reads block `a`. -/
theorem mod_eq (a : Fin 16) : (⟨(16 * 0 + a.val) % 16, Nat.mod_lt _ (by decide)⟩ : Fin 16) = a :=
  Fin.ext (by have := a.isLt; show (16 * 0 + a.val) % 16 = a.val; omega)

/-- The result array of the sums. -/
theorem final_st (c : Dev nD) : (dats m 0 c).arrAt 3 cfg0.N
    = stOf (m ((c : Thread nD τ).loc main_arg0)) (m ((c : Thread nD τ).loc main_arg1)) := by
  refine (dats m 0 c).arrAt_eq_of_after_last 3 t0_15 (by decide +kernel) _ fun j => ?_
  blk_simp
  rw [after0_3, outs_eq, zero_add]
  show ∑ k ∈ Finset.range 16, term m c (16 * 0 + k) j = _
  rw [Finset.sum_range]
  unfold term stOf
  by_cases h0 : (j 0).val = 0
  · simp only [if_pos h0]
    refine Finset.sum_congr rfl fun a _ => ?_
    rw [mod_eq a]
  · simp only [if_neg h0]
    by_cases h1 : (j 0).val = 1
    · simp only [if_pos h1]
      refine Finset.sum_congr rfl fun a _ => ?_
      rw [mod_eq a]
    · simp only [if_neg h1]
      exact Finset.sum_const_zero

/-- The reference's product. -/
theorem ref_z (x : S16x2048x256.Idx → EReal) (w : S256x256.Idx → EReal) :
    Host.dotGeneral (F := Ideal) (φ₁ := .f32) (φ₂ := .f32) Cert.MmReferenceIdeal.dot_S16x2048x256_S256x256_S16x2048x256_2_1_01_0_n_n none x w = zOf x w := by
  funext i
  unfold zOf prod
  pointwise

/-- The reference's sum over the first two axes. -/
theorem ref_sum (z : S16x2048x256.Idx → EReal) (j : S256.Idx) :
    Ideal.hostReduceAdd Cert.MmReferenceIdeal.Facts₀.reducesTo_S16x2048x256_S256_d0_1 z 0 j
      = ∑ a : Fin 16, ∑ r : Fin 2048, z (ix3 a r (j 0)) := by
  unfold Ideal.hostReduceAdd
  rw [zero_add, ← Finset.sum_product']
  symm
  refine Finset.sum_nbij' (fun p => (ix3 p.1 p.2 (j 0) : S16x2048x256.Idx)) (fun i => ((i 0 : Fin 16), (i 1 : Fin 2048))) (fun p _ => ?_) (fun i _ => ?_) (fun p _ => rfl) (fun i hi => ?_) (fun p _ => rfl)
  · rw [Finset.mem_filter]
    refine ⟨Finset.mem_univ _, ?_⟩
    funext b
    match b with
    | 0 => rfl
  · exact Finset.mem_product.mpr ⟨Finset.mem_univ _, Finset.mem_univ _⟩
  · have h := (Finset.mem_filter.mp hi).2
    funext b
    match b with
    | 0 => rfl
    | 1 => rfl
    | 2 => exact (congrFun h 0).symm

/-- The reference's sums. -/
theorem ref_st (z : S16x2048x256.Idx → EReal) (j : S8x256.Idx) :
    (concatenate S8x256 0 [⟨S1x256, ((broadcastInDim S1x256 ![1] Cert.MmReferenceIdeal.Facts₀.bcast_S256_S1x256_1 (Host.reduceAdd (F := Ideal) (z : FVec Ideal S16x2048x256 .f32) (constant Cert.MmReferenceIdeal.S_ .f32 0x00000000#32) Cert.MmReferenceIdeal.Facts₀.reducesTo_S16x2048x256_S256_d0_1 Cert.MmReferenceIdeal.Facts₀.h_S_)) : S1x256.Idx → EReal)⟩,
      ⟨S1x256, ((broadcastInDim S1x256 ![1] Cert.MmReferenceIdeal.Facts₀.bcast_S256_S1x256_1 (Host.reduceAdd (F := Ideal) (mulf (z : FVec Ideal S16x2048x256 .f32) z) (constant Cert.MmReferenceIdeal.S_ .f32 0x00000000#32) Cert.MmReferenceIdeal.Facts₀.reducesTo_S16x2048x256_S256_d0_1 Cert.MmReferenceIdeal.Facts₀.h_S_)) : S1x256.Idx → EReal)⟩,
      ⟨S6x256, ((broadcastInDim S6x256 ![] Cert.MmReferenceIdeal.Facts₀.bcast_S_S6x256 (constant (F := Ideal) Cert.MmReferenceIdeal.S_ .f32 0x00000000#32)) : S6x256.Idx → EReal)⟩] Cert.MmReferenceIdeal.Facts₀.concatenates_S1x256_S1x256_S6x256_S8x256_d0 : S8x256.Idx → EReal) j
      = if (j 0).val = 0 then ∑ a : Fin 16, ∑ r : Fin 2048, z (ix3 a r (j 1))
        else if (j 0).val = 1 then ∑ a : Fin 16, ∑ r : Fin 2048, z (ix3 a r (j 1)) * z (ix3 a r (j 1))
        else 0 := by
  pointwise
  rw [ref_sum, ref_sum]
  by_cases h0 : (j 0).val = 0
  · rw [dif_pos (show (j 0).val < 1 by omega), if_pos h0]
    rfl
  · rw [dif_neg (show ¬(j 0).val < 1 by omega), if_neg h0]
    by_cases h1 : (j 0).val = 1
    · rw [dif_pos (show (j 0).val - 1 < 1 by omega), if_pos h1]
      rfl
    · rw [dif_neg (show ¬(j 0).val - 1 < 1 by omega), if_neg h1]

/-! ## The claims -/

theorem frame_kernel : Cert.quiescent_Mm := fun m ρ _ => Cert.Mm.Gen.frame m ρ
theorem frame_ideal : Cert.quiescent_MmIdeal := fun m ρ _ => Cert.MmIdeal.Gen.frame m ρ
theorem frame_reference : Cert.quiescent_MmReferenceIdeal := fun m ρ _ =>
  (θ_run Cert.MmReferenceIdeal.defs _ _).mono (fun r h => ⟨fun c => (h c).2.2, Idealize.ShloMosaic.sem_eq_zero_of_no_sems (by decide) r.2⟩)
    (Cert.MmReferenceIdeal.Value.run (F := Ideal) m ρ)

/-- The kernel's product and sums are the reference's. -/
theorem algebraic : Cert.algebraic_MmIdeal_MmReferenceIdeal := by
  intro m ρ m' ρ' _ hagree
  refine ⟨fun c => zOf (m ((c : Thread nD τ).loc main_arg0)) (m ((c : Thread nD τ).loc main_arg1)),
    fun c => stOf (m ((c : Thread nD τ).loc main_arg0)) (m ((c : Thread nD τ).loc main_arg1)), ?_, ?_⟩
  · refine (θ_run Cert.MmIdeal.defs _ _).mono (fun r h c => ?_) (run_blocks (F := Ideal) m ρ)
    exact ⟨(h c).1.trans (final_z m c), (h c).2.1.trans (final_st m c), (h c).2.2⟩
  · refine (θ_run Cert.MmReferenceIdeal.defs _ _).mono (fun r h c => ?_) (Cert.MmReferenceIdeal.Value.run (F := Ideal) m' ρ')
    obtain ⟨e0, e1⟩ := hagree c
    have hz := ref_z (m ((c : Thread nD τ).loc main_arg0)) (m ((c : Thread nD τ).loc main_arg1))
    refine ⟨(h c).1.trans ?_, (h c).2.1.trans ?_, (h c).2.2⟩
    · rw [e0, e1]
      exact hz
    · rw [e0, e1, show Host.dotGeneral (F := Ideal) (φ₁ := .f32) (φ₂ := .f32) Cert.MmReferenceIdeal.dot_S16x2048x256_S256x256_S16x2048x256_2_1_01_0_n_n none (m ((c : Thread nD τ).loc main_arg0)) (m ((c : Thread nD τ).loc main_arg1)) = _ from hz]
      funext j
      exact ref_st _ j

end Cert.MmIdeal.Value

end
-- ==== Proof.Knn.Rows.lean ====
/-
  The rounds of the nearest-neighbour call on one row: each takes the first position of the least entry and puts a large
  number there. The positions taken are those of a stable ascending sort of the row, in order.
-/
module

public import Idealize.ShloMosaic.Lib.SortFacts
public import Idealize.ShloMosaic.PureOps.Ideal

@[expose] public section

noncomputable section

namespace Cert.Proof.Knn

open Idealize.ShloMosaic

/-! ## A stable ascending sort, read -/

section Ascending

variable {ι α : Type} [LinearOrder α] (g : ι → α) (P : ι → ι → Prop)

/-- The smaller entry first, and of equal entries the one that stood first. -/
def Asc (a b : ι) : Prop := g a < g b ∨ (g a = g b ∧ P a b)

theorem asc_insertBefore (a : ι) (l : List ι) (ha : ∀ b ∈ l, P a b) (hl : l.Pairwise (Asc g P)) :
    (insertBefore (fun u v => decide (g u < g v)) a l).Pairwise (Asc g P) := by
  induction l with
  | nil => exact List.pairwise_singleton _ _
  | cons b l ih =>
    have hc := List.pairwise_cons.mp hl
    unfold insertBefore
    by_cases h : g b < g a
    · rw [if_pos (by simpa using h)]
      refine List.pairwise_cons.mpr ⟨fun z hz => ?_, ih (fun z hz => ha z (List.mem_cons_of_mem _ hz)) hc.2⟩
      have hz' := (perm_insertBefore _ a l).mem_iff.mp hz
      rcases List.mem_cons.mp hz' with e | hm
      · exact Or.inl (e ▸ h)
      · exact hc.1 z hm
    · rw [if_neg (by simpa using h)]
      have hle : g a ≤ g b := not_lt.mp h
      refine List.pairwise_cons.mpr ⟨fun z hz => ?_, hl⟩
      have hz' : g a ≤ g z := by
        rcases List.mem_cons.mp hz with e | hm
        · exact e ▸ hle
        · exact hle.trans ((hc.1 z hm).elim le_of_lt fun q => le_of_eq q.1)
      exact hz'.lt_or_eq.imp id fun e => ⟨e, ha z hz⟩

/-- A stable ascending sort of a list leaves it in that order. -/
theorem asc_stableSort (l : List ι) (hl : l.Pairwise P) : (stableSort (fun u v => decide (g u < g v)) l).Pairwise (Asc g P) := by
  induction l with
  | nil => exact List.Pairwise.nil
  | cons a l ih =>
    have hc := List.pairwise_cons.mp hl
    exact asc_insertBefore g P a _ (fun b hb => hc.1 b ((perm_stableSort _ l).mem_iff.mp hb)) (ih hc.2)

end Ascending

/-! ## One round -/

variable {n : ℕ}

/-- The least entry of a row. -/
def low (x : Fin n → EReal) : EReal := (Finset.univ : Finset (Fin n)).fold min ⊤ x

/-- The first position of the least entry, as a round computes it. -/
def pick (x : Fin n → EReal) : EReal :=
  (Finset.univ : Finset (Fin n)).fold min ⊤ fun j => if x j = low x then ((j.val : ℝ) : EReal) else ((4096 : ℝ) : EReal)

/-- The row with `C` at the position taken. -/
def next (C : EReal) (x : Fin n → EReal) (j : Fin n) : EReal := if ((j.val : ℝ) : EReal) = pick x then C else x j

/-- `p` is the first position of the least entry of `x`. -/
def First (x : Fin n → EReal) (p : Fin n) : Prop := ∀ j, x p < x j ∨ (x p = x j ∧ p ≤ j)

theorem low_eq (x : Fin n → EReal) (p : Fin n) (h : First x p) : low x = x p := by
  refine le_antisymm ((Finset.fold_min_le _).mpr (Or.inr ⟨p, Finset.mem_univ p, le_rfl⟩)) ((Finset.le_fold_min _).mpr ⟨le_top, fun j _ => ?_⟩)
  exact (h j).elim le_of_lt fun q => le_of_eq q.1

theorem pick_eq (hn : n ≤ 4096) (x : Fin n → EReal) (p : Fin n) (h : First x p) : pick x = ((p.val : ℝ) : EReal) := by
  unfold pick
  rw [low_eq x p h]
  refine le_antisymm ((Finset.fold_min_le _).mpr (Or.inr ⟨p, Finset.mem_univ p, by rw [if_pos rfl]⟩)) ((Finset.le_fold_min _).mpr ⟨le_top, fun j _ => ?_⟩)
  by_cases e : x j = x p
  · rw [if_pos e]
    rcases h j with q | q
    · exact absurd e (ne_of_gt q)
    · exact EReal.coe_le_coe_iff.mpr (Nat.cast_le.mpr q.2)
  · rw [if_neg e]
    have := p.isLt
    exact EReal.coe_le_coe_iff.mpr (by exact_mod_cast (by omega : p.val ≤ 4096))

theorem next_eq (hn : n ≤ 4096) (C : EReal) (x : Fin n → EReal) (p : Fin n) (h : First x p) (j : Fin n) :
    next C x j = if j = p then C else x j := by
  unfold next
  rw [pick_eq hn x p h]
  refine if_congr ?_ rfl rfl
  rw [EReal.coe_eq_coe_iff, Nat.cast_inj]
  exact Fin.ext_iff.symm

/-! ## The rounds -/

/-- The positions of a row in ascending order of the entries. -/
def order (x : Fin n → EReal) : List (Fin n) := sortPositions n fun a b => decide (x a < x b)

theorem order_nodup (x : Fin n → EReal) : (order x).Nodup := (perm_sortPositions n _).nodup_iff.mpr (List.nodup_finRange n)

theorem mem_order (x : Fin n → EReal) (j : Fin n) : j ∈ order x := (perm_sortPositions n _).mem_iff.mpr (List.mem_finRange j)

theorem order_asc (x : Fin n → EReal) : (order x).Pairwise (Asc x (· < ·)) :=
  asc_stableSort x (· < ·) _ (List.pairwise_lt_finRange n)

/-- The row after `r` rounds: `C` at the first `r` positions of the order. -/
def gone (C : EReal) (x : Fin n → EReal) (r : ℕ) (j : Fin n) : EReal := if j ∈ (order x).take r then C else x j

/-- After `r` rounds the first position of the least entry is the next of the order. -/
theorem first_gone (C : EReal) (x : Fin n → EReal) (hx : ∀ j, x j < C) (r : ℕ) (hr : r < (order x).length) :
    First (gone C x r) ((order x)[r]) := by
  have hsplit : order x = (order x).take r ++ (order x)[r] :: (order x).drop (r + 1) := by
    rw [← List.drop_eq_getElem_cons hr, List.take_append_drop]
  have hnd := order_nodup x
  have has := order_asc x
  rw [hsplit] at hnd has
  have hnot : (order x)[r] ∉ (order x).take r := fun hm =>
    (List.nodup_append.mp hnd).2.2 _ hm _ List.mem_cons_self rfl
  have hp : gone C x r ((order x)[r]) = x ((order x)[r]) := if_neg hnot
  intro j
  rw [hp]
  by_cases hj : j ∈ (order x).take r
  · exact Or.inl (by unfold gone; rw [if_pos hj]; exact hx _)
  · have hg : gone C x r j = x j := if_neg hj
    rw [hg]
    have hm := mem_order x j
    rw [hsplit] at hm
    rcases List.mem_append.mp hm with h | h
    · exact absurd h hj
    · rcases List.mem_cons.mp h with e | h
      · exact Or.inr ⟨by rw [← e], le_of_eq e.symm⟩
      · exact ((List.pairwise_cons.mp (List.pairwise_append.mp has).2.1).1 j h).imp id fun q => ⟨q.1, le_of_lt q.2⟩

theorem iterate_next (hn : n ≤ 4096) (C : EReal) (x : Fin n → EReal) (hx : ∀ j, x j < C) (r : ℕ) (hr : r ≤ (order x).length) :
    (next C)^[r] x = gone C x r := by
  induction r with
  | zero => funext j; exact (if_neg (by simp)).symm
  | succ r ih =>
    rw [Function.iterate_succ_apply', ih (Nat.le_of_succ_le hr)]
    funext j
    rw [next_eq hn C _ _ (first_gone C x hx r hr) j]
    unfold gone
    rw [List.take_succ_eq_append_getElem hr]
    by_cases e : j = (order x)[r]
    · rw [if_pos e, if_pos (List.mem_append_right _ (List.mem_singleton.mpr e))]
    · rw [if_neg e]
      exact if_congr ⟨List.mem_append_left _, fun h => (List.mem_append.mp h).elim id fun h => absurd (List.mem_singleton.mp h) e⟩ rfl rfl

/-- Round `r` takes the `r`-th position of the ascending order. -/
theorem pick_round (hn : n ≤ 4096) (C : EReal) (x : Fin n → EReal) (hx : ∀ j, x j < C) (r : Fin n) :
    pick ((next C)^[r.val] x) = (((sortedFrom (fun a b => decide (x a < x b)) r).val : ℝ) : EReal) := by
  have hl : r.val < (order x).length := lt_of_lt_of_eq r.isLt (length_sortPositions n _).symm
  rw [iterate_next hn C x hx r.val hl.le, pick_eq hn _ _ (first_gone C x hx r.val hl)]
  rfl

end Cert.Proof.Knn

end
-- ==== Proof.Knn.Rounds.lean ====
/-
  The nearest-neighbour body's printed rounds, folded into one round repeated sixteen times, and the round read on a row.
-/
module

public import proofs.«01_k».proof.Proof.Gen.KnnIdeal.Frame
public import proofs.«01_k».proof.Proof.Knn.Rows
public import Idealize.ShloMosaic.Lib.Pipeline.ValueKit
public import Idealize.ShloMosaic.Lib.Pointwise

@[expose] public section

set_option maxRecDepth 16384

noncomputable section

namespace Cert.KnnIdeal.Value

open Cert.KnnIdeal Cert.KnnIdeal.Gen
open Idealize.ShloMosaic Idealize.ShloMosaic.TcCoe Idealize.SL.Sem
open Cert.Proof.Knn (low pick next)

/-- Each row's least entry, along the row. -/
def lows (d : FVec Ideal S512x2048 .f32) : FVec Ideal S512x2048 .f32 :=
  broadcastTo S512x2048 (shapeCast S512x1 (multiReduction .minimumf [1] S512 d 0x7F800000#32 reduces_S512x2048_S512 (.inl rfl) rfl : FVec Ideal S512 .f32) shapeCasts_S512_S512x1) broadcasts_S512x1_S512x2048

/-- The positions of the least entries, 4096 elsewhere. -/
def marks (d : FVec Ideal S512x2048 .f32) : FVec Ideal S512x2048 .f32 :=
  select (cmpf .oeq d (lows d)) (k0_pay6 (F := Ideal)) (broadcast S512x2048 (Scalar.ofBits .f32 0x45800000#32 : Ideal .f32))

/-- The least position of the least entry of each row. -/
def taken (d : FVec Ideal S512x2048 .f32) : FVec Ideal S512x1 .f32 :=
  shapeCast S512x1 (multiReduction .minimumf [1] S512 (marks d) 0x7F800000#32 reduces_S512x2048_S512 (.inl rfl) rfl : FVec Ideal S512 .f32) shapeCasts_S512_S512x1

/-- The block with a large number at the positions taken. -/
def rest (d : FVec Ideal S512x2048 .f32) : FVec Ideal S512x2048 .f32 :=
  select (cmpf .oeq (k0_pay6 (F := Ideal)) (broadcastTo S512x2048 (taken d) broadcasts_S512x1_S512x2048))
    (broadcast S512x2048 (Scalar.ofBits .f32 0x7F61B1E6#32 : Ideal .f32)) d

/-- The block after `r` rounds. -/
def after (v : Vec Ideal S1x512x2048 .f32) (r : ℕ) : FVec Ideal S512x2048 .f32 := rest^[r] (k0_pay5 v)

theorem after_succ (v : Vec Ideal S1x512x2048 .f32) (r : ℕ) : after v (r + 1) = rest (after v r) := Function.iterate_succ_apply' _ _ _

/-! ## The printed payloads are the rounds -/

variable (x : Vec Ideal S1x512x2048 .f32) (d : FVec Ideal S512x2048 .f32)

theorem pay7_eq : k0_pay7 x = taken (k0_pay5 x) := rfl
theorem pay8_eq : k0_pay8 x = rest (k0_pay5 x) := rfl
theorem pay9_eq : k0_pay9 x = taken (rest (k0_pay5 x)) := rfl
theorem pay11_eq : k0_pay11 x = taken (rest (rest (k0_pay5 x))) := rfl
theorem pay12_eq : k0_pay12 x = rest (rest (rest (k0_pay5 x))) := rfl
theorem pay13_eq : k0_pay13 x = lows (k0_pay12 x) := rfl

theorem pay14_eq : k0_pay14 (k0_pay6 (F := Ideal)) d (lows d) = taken d := rfl
theorem pay16_eq : k0_pay16 (k0_pay6 (F := Ideal)) d (lows d) = taken (rest d) := rfl
theorem pay18_eq : k0_pay18 (k0_pay6 (F := Ideal)) d (lows d) = taken (rest (rest d)) := rfl
theorem pay20_eq : k0_pay20 (k0_pay6 (F := Ideal)) d (lows d) = taken (rest (rest (rest d))) := rfl
theorem pay21_eq : k0_pay21 (k0_pay6 (F := Ideal)) d (lows d) = rest (rest (rest (rest d))) := rfl

theorem pay22_eq : k0_pay22 (k0_pay6 (F := Ideal)) d = taken d := rfl
theorem pay24_eq : k0_pay24 (k0_pay6 (F := Ideal)) d = taken (rest d) := rfl
theorem pay26_eq : k0_pay26 (k0_pay6 (F := Ideal)) d = taken (rest (rest d)) := rfl
theorem pay27_eq : k0_pay27 (k0_pay6 (F := Ideal)) d = rest (rest (rest d)) := rfl
theorem pay28_eq : k0_pay28 (k0_pay6 (F := Ideal)) d = taken (rest (rest (rest d))) := rfl

theorem pay31_eq : k0_pay31 (k0_pay6 (F := Ideal)) d (broadcastTo S512x2048 (taken d) broadcasts_S512x1_S512x2048) = taken (rest d) := rfl
theorem pay33_eq : k0_pay33 (k0_pay6 (F := Ideal)) d (broadcastTo S512x2048 (taken d) broadcasts_S512x1_S512x2048) = taken (rest (rest d)) := rfl
theorem pay35_eq : k0_pay35 (k0_pay6 (F := Ideal)) d (broadcastTo S512x2048 (taken d) broadcasts_S512x1_S512x2048) = taken (rest (rest (rest d))) := rfl
theorem pay36_eq : k0_pay36 (k0_pay6 (F := Ideal)) d (broadcastTo S512x2048 (taken d) broadcasts_S512x1_S512x2048) = rest (rest (rest (rest d))) := rfl
theorem pay37_eq : k0_pay37 (k0_pay6 (F := Ideal)) d (broadcastTo S512x2048 (taken d) broadcasts_S512x1_S512x2048) = marks (rest (rest (rest (rest d)))) := rfl
theorem pay1_eq : k0_pay1 (marks d) = taken d := rfl
theorem pay2_eq : k0_pay2 (k0_pay6 (F := Ideal)) d (taken d) = rest d := rfl
theorem pay3_eq : k0_pay3 (k0_pay6 (F := Ideal)) d = marks d := rfl
theorem pay29_eq : k0_pay29 (k0_pay6 (F := Ideal)) d
    = broadcastTo S512x2048 (taken (rest (rest (rest d)))) broadcasts_S512x1_S512x2048 := rfl

/-! ## A round on a row -/

/-- Row `i` of a block. -/
def row (d : FVec Ideal S512x2048 .f32) (i : Fin 512) : Fin 2048 → EReal := fun j => d (ix2 i j)

/-- The large number. -/
def big : EReal := Ideal.ofBits .f32 0x7F61B1E6#32

theorem word_toInt (n : ℕ) (h : n < 2048) : (BitVec.ofNat 32 n).toInt = (n : ℤ) := by
  rw [BitVec.toInt_eq_toNat_cond, BitVec.toNat_ofNat]
  omega

theorem iota_apply (i : Fin 512) (j : Fin 2048) : k0_pay6 (F := Ideal) (ix2 i j) = ((j.val : ℝ) : EReal) := by
  pointwise [k0_pay6]
  show (((BitVec.ofNat 32 j.val).toInt : ℝ) : EReal) = _
  rw [word_toInt j.val j.isLt, Int.cast_natCast]

theorem inf_eq : Ideal.ofBits .f32 0x7F800000#32 = ⊤ := by
  simp [Ideal.ofBits, Ideal.ieee]

theorem none_eq : Ideal.ofBits .f32 0x45800000#32 = ((4096 : ℝ) : EReal) := by
  simp [Ideal.ofBits, Ideal.ieee]
  rw [← EReal.coe_mul]
  norm_num

theorem lows_apply (i : Fin 512) (j : Fin 2048) : lows d (ix2 i j) = low (row d i) := by
  pointwise [lows]
  rw [inf_eq]
  rfl

theorem marks_apply (i : Fin 512) (j : Fin 2048) :
    marks d (ix2 i j) = if row d i j = low (row d i) then ((j.val : ℝ) : EReal) else ((4096 : ℝ) : EReal) := by
  pointwise [marks]
  rw [lows_apply, iota_apply, none_eq]
  rfl

theorem taken_apply (i : Fin 512) : taken d (ix2 i 0) = pick (row d i) := by
  pointwise [taken]
  rw [inf_eq]
  exact congrArg (fun f => Finset.fold min ⊤ f Finset.univ) (funext fun j => marks_apply d i j)

theorem rest_apply (i : Fin 512) (j : Fin 2048) : rest d (ix2 i j) = next big (row d i) j := by
  pointwise [rest]
  rw [taken_apply, iota_apply]
  rfl

theorem row_after (v : Vec Ideal S1x512x2048 .f32) (i : Fin 512) (r : ℕ) : row (after v r) i = (next big)^[r] (row (k0_pay5 v) i) := by
  induction r with
  | zero => rfl
  | succ r ih =>
    rw [after_succ, Function.iterate_succ_apply', ← ih]
    funext j
    exact rest_apply _ i j

end Cert.KnnIdeal.Value

end
-- ==== Proof.Knn.Value.lean ====
/-
  The nearest-neighbour call and its reference leave the same array of positions.
-/
module

public import proofs.«01_k».proof.Proof.Knn.Rounds
public import proofs.«01_k».proof.Proof.Gen.KnnReferenceIdeal.Run
public import proofs.«01_k».proof.Proof.Gen.Pre_knn_pre
public import proofs.«01_k».proof.Defs
public import Idealize.ShloMosaic.Lib.ReduceAll
public import Idealize.ShloMosaic.Lib.WordCmp

@[expose] public section

set_option maxRecDepth 16384

noncomputable section

namespace Cert.KnnIdeal.Value

open Cert.KnnIdeal Cert.KnnIdeal.Gen
open Idealize.ShloMosaic Idealize.ShloMosaic.TcCoe Idealize.SL.Sem
open Idealize.ShloMosaic.Pipeline (Dat)
open Cert.Proof.Knn (low pick next pick_round)

variable (m : (ℓ : Loc nD τ sig) → Buf (Elt Ideal) ℓ) (ρ : Dev nD → PrngReg)

/-- Row `i` of sheet `b` of an array of distances. -/
def line (x : S8x512x2048.Idx → EReal) (b : Fin 8) (i : Fin 512) : Fin 2048 → EReal := fun j => x (ix3 b i j)

/-- The positions of the sixteen least entries of every row, in order. -/
def near (x : S8x512x2048.Idx → EReal) : S8x512x16.Idx → BitVec 32 := fun z =>
  BitVec.ofNat 32 (sortedFrom (fun a b => decide (line x (z 0) (z 1) a < line x (z 0) (z 1) b)) (⟨(z 2).val, lt_trans (z 2).isLt (by decide)⟩ : Fin 2048)).val

/-! ## The body's store -/

/-- The sixteen rounds' positions as the body stores them. -/
def stored (x : Vec Ideal S1x512x2048 .f32) : IVec S1x512x16 32 :=
  k0_pay4 (taken (after x 0)) (taken (after x 1)) (taken (after x 2)) (taken (after x 3)) (taken (after x 4)) (taken (after x 5))
    (taken (after x 6)) (taken (after x 7)) (taken (after x 8)) (taken (after x 9)) (taken (after x 10)) (taken (after x 11))
    (taken (after x 12)) (taken (after x 13)) (taken (after x 14)) (marks (after x 15))

theorem ld_eq (x : Vec Ideal S1x512x2048 .f32) : View.ld x r0_0 = x := View.ld_unit_lit _ x (by decide)

theorem after_three (x : Vec Ideal S1x512x2048 .f32) : after x 3 = rest (rest (rest (k0_pay5 x))) := by
  rw [after_succ, after_succ, after_succ]
  rfl

theorem out_eq (x : Vec Ideal S1x512x2048 .f32) : out0_1 x = stored x := by
  have h38 : k0_pay38 x = k0_pay6 (F := Ideal) := rfl
  have h39 : k0_pay39 x = after x 3 := by unfold k0_pay39; rw [ld_eq, pay12_eq, after_three]
  have h40 : k0_pay40 x = lows (after x 3) := by unfold k0_pay40; rw [ld_eq, pay13_eq, pay12_eq, after_three]
  have h41 : k0_pay41 x = after x 7 := by
    unfold k0_pay41; rw [h38, h39, h40, pay21_eq]; simp only [← after_succ]
  have h42 : k0_pay42 x = after x 10 := by
    unfold k0_pay42; rw [h38, h41, pay27_eq]; simp only [← after_succ]
  have h43 : k0_pay43 x = broadcastTo S512x2048 (taken (after x 10)) broadcasts_S512x1_S512x2048 := by
    unfold k0_pay43; rw [h38, h41, pay29_eq]; simp only [← after_succ]
  have h44 : k0_pay44 x = taken (after x 14) := by
    unfold k0_pay44; rw [h38, h42, h43, pay37_eq, pay1_eq]; simp only [← after_succ]
  unfold out0_1
  rw [h38, h39, h40, h41, h42, h43, h44, ld_eq, pay7_eq, pay9_eq, pay11_eq, pay14_eq, pay16_eq, pay18_eq, pay20_eq, pay22_eq, pay24_eq,
    pay26_eq, pay28_eq, pay31_eq, pay33_eq, pay35_eq, pay36_eq]
  rw [show k0_pay5 x = after x 0 from rfl]
  simp only [← after_succ]
  rw [pay2_eq, pay3_eq, ← after_succ]
  simp only [Nat.reduceAdd]
  unfold stored
  exact View.canon_cons_unit_lit _ _ [] (by decide)

/-- A position as a float, back as a word. -/
theorem word_of (n : ℕ) (h : n < 2048) : Ideal.fptosi 32 ((n : ℝ) : EReal) = BitVec.ofNat 32 n := by
  unfold Ideal.fptosi
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num), BitVec.ofInt_natCast]

/-- The columns laid side by side, read at a row and a column. -/
theorem columns_apply (x : Vec Ideal S1x512x2048 .f32) (i : Fin 512) (q : Fin 16) :
    (concatenate S512x16 1 [⟨S512x1, taken (after x 0)⟩, ⟨S512x1, taken (after x 1)⟩, ⟨S512x1, taken (after x 2)⟩, ⟨S512x1, taken (after x 3)⟩,
      ⟨S512x1, taken (after x 4)⟩, ⟨S512x1, taken (after x 5)⟩, ⟨S512x1, taken (after x 6)⟩, ⟨S512x1, taken (after x 7)⟩,
      ⟨S512x1, taken (after x 8)⟩, ⟨S512x1, taken (after x 9)⟩, ⟨S512x1, taken (after x 10)⟩, ⟨S512x1, taken (after x 11)⟩,
      ⟨S512x1, taken (after x 12)⟩, ⟨S512x1, taken (after x 13)⟩, ⟨S512x1, taken (after x 14)⟩, ⟨S512x1, taken (after x 15)⟩]
      concatenates_S512x1_S512x1_S512x1_S512x1_S512x1_S512x1_S512x1_S512x1_S512x1_S512x1_S512x1_S512x1_S512x1_S512x1_S512x1_S512x1_S512x16_d1 : S512x16.Idx → EReal) (ix2 i q)
      = taken (after x q.val) (ix2 i 0) := by
  concat_tiles u h
  all_goals
    have hq : q.val = _ := h
    rw [hq]
    congr 1
    exact funext fun a => Fin.ext (by match a with
      | 0 => exact h0
      | 1 => exact h1)

/-- What the body stores at row `i`, column `q`, of a block below the large number. -/
theorem stored_apply (x : Vec Ideal S1x512x2048 .f32) (hx : ∀ i j, x (ix3 0 i j) < big) (i : Fin 512) (q : Fin 16) :
    stored x (ix3 0 i q) = BitVec.ofNat 32 (sortedFrom (fun a b => decide (x (ix3 0 i a) < x (ix3 0 i b))) (⟨q.val, lt_trans q.isLt (by decide)⟩ : Fin 2048)).val := by
  have hr : row (k0_pay5 x) i = fun j => x (ix3 0 i j) := by
    funext j
    unfold row
    pointwise [k0_pay5]
  have e : stored x (ix3 0 i q) = Ideal.fptosi 32 (taken (after x q.val) (ix2 i 0)) := by
    rw [← columns_apply]
    have hs : ∀ w : IVec S512x16 32, shapeCast S1x512x16 w shapeCasts_S512x16_S1x512x16 (ix3 0 i q) = w (ix2 i q) := fun w => by pointwise
    unfold stored k0_pay4
    refine (hs _).trans ?_
    rfl
  rw [e, taken_apply, row_after, hr]
  rw [pick_round (by decide) big (fun j => x (ix3 0 i j)) (fun j => hx i j) (⟨q.val, lt_trans q.isLt (by decide)⟩ : Fin 2048)]
  exact word_of _ (Fin.isLt _)

/-! ## The result array -/

theorem idx0 (t : Fin cfg0.N) : win0_0.index t = ![t.val, 0, 0] := by
  revert t
  exact (by decide +kernel : ∀ t : Fin grid0.N, win0_0.index t = ![t.val, 0, 0])

theorem idx1 (t : Fin cfg0.N) : win0_1.index t = ![t.val, 0, 0] := by
  revert t
  exact (by decide +kernel : ∀ t : Fin grid0.N, win0_1.index t = ![t.val, 0, 0])

/-- Point `t` reads sheet `t`. -/
theorem iblk_apply (c : Dev nD) (t : Fin cfg0.N) (i : Fin 512) (j : Fin 2048) :
    (iblk m c 0 t : Vec Ideal S1x512x2048 .f32) (ix3 0 i j) = m ((c : Thread nD τ).loc main_arg0) (ix3 (⟨t.val, lt_of_lt_of_eq t.isLt N_0⟩ : Fin 8) i j) := by
  blk_point [iblk, V, idx0 t]

/-- The result array, of distances below the large number. -/
theorem final (c : Dev nD) (hx : ∀ z : S8x512x2048.Idx, (show EReal from m ((c : Thread nD τ).loc main_arg0) z) < big) :
    (dats m 0 c).arrAt 1 cfg0.N = near (m ((c : Thread nD τ).loc main_arg0)) := by
  refine (dats m 0 c).arrAt_eq_of_covers 1 _ (by decide +kernel) fun t hf y => ?_
  blk_simp
  rw [after0_1, out_eq]
  obtain ⟨a, i, q, rfl⟩ : ∃ (a : Fin 1) (i : Fin 512) (q : Fin 16), y = ix3 a i q := ⟨y 0, y 1, y 2, eq_ix3 y⟩
  obtain rfl : a = 0 := Subsingleton.elim _ _
  have ei : ((View.whole main_v0).slice (win0_1.rect t)).emb (ix3 0 i q) = (ix3 (⟨t.val, lt_of_lt_of_eq t.isLt N_0⟩ : Fin 8) i q : S8x512x16.Idx) := by
    funext a
    apply Fin.ext
    match a with
    | 0 => blk_simp [idx1 t]; simp
    | 1 => blk_simp [idx1 t]
    | 2 => blk_simp [idx1 t]
  refine Eq.trans ?_ (congrArg (near (m ((c : Thread nD τ).loc main_arg0))) ei.symm)
  refine (stored_apply _ (fun i j => ?_) i q).trans ?_
  · rw [iblk_apply]; exact hx _
  · simp only [iblk_apply]
    rfl

/-! ## The reference -/

theorem neg_lt (a b : EReal) : FloatOps.cmpfTotal (F := Ideal) (φ := .f32) .gt (-a) (-b) = BitVec.ofBool (decide (a < b)) := by
  show BitVec.ofBool (decide (-b < -a)) = _
  exact congrArg BitVec.ofBool (decide_eq_decide.mpr EReal.neg_lt_neg_iff)

/-- The reference's positions are the same. -/
theorem ref_eq (x : S8x512x2048.Idx → EReal) :
    (Host.topK Cert.KnnReferenceIdeal.S8x512x16 2 (FloatOps.cmpfTotal (F := Ideal) (φ := .f32) .gt) (Host.negf (x : FVec Ideal S8x512x2048 .f32)) Cert.KnnReferenceIdeal.Facts₀.sliceFits_S8x512x2048_S8x512x16).2
      = near x := by
  funext z
  obtain ⟨b, i, q, rfl⟩ : ∃ (b : Fin 8) (i : Fin 512) (q : Fin 16), z = ix3 b i q := ⟨z 0, z 1, z 2, eq_ix3 z⟩
  have hal : ∀ (J : S8x512x2048.Idx) (k : Fin 2048), J 0 = b → J 1 = i → J.along 2 k = ix3 b i k := fun J k h0 h1 => by
    funext a
    match a with
    | 0 => exact h0
    | 1 => exact h1
    | 2 => rfl
  have hsl : ∀ (v : S8x512x2048.Idx → BitVec 32), extractStridedSlice Cert.KnnReferenceIdeal.S8x512x16 (fun _ => 0) v Cert.KnnReferenceIdeal.Facts₀.sliceFits_S8x512x2048_S8x512x16 (ix3 b i q)
      = v (ix3 b i (⟨q.val, lt_trans q.isLt (by decide)⟩ : Fin 2048)) := fun v => by
    unfold extractStridedSlice
    refine congrArg v (funext fun a => Fin.ext ?_)
    match a with
    | 0 => exact zero_add _
    | 1 => exact zero_add _
    | 2 => exact zero_add _
  unfold Host.topK
  dsimp only
  refine (hsl _).trans ?_
  unfold Host.sort2
  rw [dif_pos (show 2 < S8x512x2048.rank by decide)]
  dsimp only
  rw [dif_pos (show 2 < S8x512x2048.rank by decide)]
  unfold iotaInDim
  refine congrArg (fun p : Fin 2048 => BitVec.ofNat 32 p.val) (?_ : _ = sortedFrom (fun a b' => decide (line x b i a < line x b i b')) (⟨q.val, lt_trans q.isLt (by decide)⟩ : Fin 2048))
  refine (Function.update_self _ _ _).trans ?_
  refine congrArg (fun B => sortedFrom B (⟨q.val, lt_trans q.isLt (by decide)⟩ : Fin 2048)) ?_
  funext k k'
  have hk := fun k : Fin 2048 => hal (ix3 b i (⟨q.val, lt_trans q.isLt (by decide)⟩ : Fin 2048)) k rfl rfl
  show (FloatOps.cmpfTotal (F := Ideal) (φ := .f32) .gt (-(x ((ix3 b i (⟨q.val, lt_trans q.isLt (by decide)⟩ : Fin 2048) : S8x512x2048.Idx).along 2 k)))
    (-(x ((ix3 b i (⟨q.val, lt_trans q.isLt (by decide)⟩ : Fin 2048) : S8x512x2048.Idx).along 2 k'))) == 1#1) = _
  rw [hk k, hk k', neg_lt]
  show _ = decide (x (ix3 b i k) < x (ix3 b i k'))
  by_cases h : x (ix3 b i k) < x (ix3 b i k')
  · simp [h]
  · simp [h]

/-! ## The precondition and the claim -/

theorem below_of_pre (x : S8x512x2048.Idx → EReal) (h : Cert.Pre_knn_pre.fn (F := Ideal) x = fun _ => 1#1) (z : S8x512x2048.Idx) : x z < big := by
  have e := congrFun h (Shape.Idx.first (s := Cert.Pre_knn_pre.S_) Cert.Pre_knn_pre.Gen.h_S_)
  dsimp only [Cert.Pre_knn_pre.fn] at e
  haveI : Subsingleton Cert.Pre_knn_pre.S_.Idx := ⟨fun a b => funext fun i => i.elim0⟩
  have e' := Host.reduce_andi_all _ _ _ _ _ e z
  have e'' : BitVec.ofBool (decide (x z < big)) = 1#1 := e'
  exact (WordCmp.ofBool_decide_eq_one_iff _).mp e''

theorem frame_reference : Cert.quiescent_KnnReferenceIdeal := fun m ρ _ =>
  (θ_run Cert.KnnReferenceIdeal.defs _ _).mono (fun r h => ⟨fun c => (h c).2, Idealize.ShloMosaic.sem_eq_zero_of_no_sems (by decide) r.2⟩)
    (Cert.KnnReferenceIdeal.Value.run (F := Ideal) m ρ)

/-- Of distances below the large number the call leaves the positions that the reference leaves. -/
theorem algebraic : Cert.algebraic_KnnIdeal_KnnReferenceIdeal_pre_knn_pre := by
  intro m ρ m' ρ' hpre hagree
  refine ⟨fun c => near (m ((c : Thread nD τ).loc main_arg0)), ?_, ?_⟩
  · refine (θ_run Cert.KnnIdeal.defs _ _).mono (fun r h c => ?_) (run_main (F := Ideal) m ρ)
    exact ⟨((h c).1 1).trans (final m c (below_of_pre _ (hpre c))),
      ((h c).1 0).trans (((dats m 0 c).arrAt_in 0 rfl _).trans ((A_eq m c 0).trans (V_main_arg0 m c)))⟩
  · refine (θ_run Cert.KnnReferenceIdeal.defs _ _).mono (fun r h c => ⟨(h c).1.trans ?_, (h c).2⟩) (Cert.KnnReferenceIdeal.Value.run (F := Ideal) m' ρ')
    rw [hagree c]
    exact ref_eq _

end Cert.KnnIdeal.Value

end
-- ==== Proof.Bn.Value.lean ====
/-
  What the normalisation and product call leaves, at machine words: a table of 32-bit words, two keys in each, and the sums
  of the product and of its square. The kernel takes a batch a point and carries the sums across the points; the reference
  takes the batches in one loop. Both do the same float operations in the same order, so the products and the sums are one
  term; the keys are equal because the two ways of forming and packing them are equal on every word.
-/
module

public import proofs.«01_k».proof.Proof.Gen.Bn.Value
public import proofs.«01_k».proof.Proof.Gen.BnReference.Value
public import proofs.«01_k».proof.Defs
public import Idealize.ShloMosaic.Lib.Pipeline.ValueKit
public import Idealize.ShloMosaic.Lib.Quiescent
public import Idealize.ShloMosaic.Lib.Pointwise

@[expose] public section

set_option maxRecDepth 16384

noncomputable section

namespace Cert.Bn.Value

open Cert.Bn Cert.Bn.Gen
open Idealize.ShloMosaic Idealize.ShloMosaic.TcCoe Idealize.SL.Sem
open Idealize.ShloMosaic.Pipeline (Dat)

variable {F : FTy → Type} [BitOps F]
variable (m : (ℓ : Loc nD τ sig) → Buf (Elt F) ℓ) (ρ : Dev nD → PrngReg)

/-- The block that a point's window names. -/
theorem idx0 (t : Fin cfg0.N) : win0_0.index t = ![t.val, 0, 0] := by
  revert t
  exact (by decide +kernel : ∀ t : Fin grid0.N, win0_0.index t = ![t.val, 0, 0])

theorem idx1 (t : Fin cfg0.N) : win0_1.index t = ![0, 0] := by
  revert t
  exact (by decide +kernel : ∀ t : Fin grid0.N, win0_1.index t = ![0, 0])

theorem idx5 (t : Fin cfg0.N) : win0_5.index t = ![t.val, 0, 0] := by
  revert t
  exact (by decide +kernel : ∀ t : Fin grid0.N, win0_5.index t = ![t.val, 0, 0])

/-- Row `a` of the sums. -/
def row (s : Vec F S8x256 .f32) (a : Fin 8) : Vec F S1x256 .f32 := fun y => s (ix2 a (y 1))

/-- Batch `t` of the features. -/
def batch (z : Vec F S16x2048x256 .f32) (t : Fin 16) : Vec F S1x2048x256 .f32 := fun y => z (ix3 t (y 1) (y 2))

/-- Point `t` reads batch `t` of the features and the other arguments whole. -/
theorem iblk0_eq (c : Dev nD) (t : Fin cfg0.N) :
    (iblk m c 0 t : Vec F S1x2048x256 .f32) = batch (m ((c : Thread nD τ).loc main_arg0)) ⟨t.val, lt_of_lt_of_eq t.isLt N_0⟩ := by
  funext y
  unfold batch
  obtain ⟨a, r, l, rfl⟩ : ∃ (a : Fin 1) (r : Fin 2048) (l : Fin 256), y = ix3 a r l := ⟨y 0, y 1, y 2, eq_ix3 y⟩
  obtain rfl : a = 0 := Subsingleton.elim _ _
  blk_point [iblk, V, idx0 t]

theorem iblk1_eq (c : Dev nD) (t : Fin cfg0.N) :
    (iblk m c 1 t : Vec F S8x256 .f32) = m ((c : Thread nD τ).loc main_arg1) := by
  funext y
  obtain ⟨a, r, rfl⟩ : ∃ (a : Fin 8) (r : Fin 256), y = ix2 a r := ⟨y 0, y 1, eq_ix2 y⟩
  blk_point [iblk, V, idx1 t]

theorem iblk2_eq (c : Dev nD) (t : Fin cfg0.N) :
    (iblk m c 2 t : Vec F S1x256 .f32) = m ((c : Thread nD τ).loc main_arg2) := by
  have hi : win0_2.index t = ![0, 0] := by
    revert t
    exact (by decide +kernel : ∀ t : Fin grid0.N, win0_2.index t = ![0, 0])
  funext y
  obtain ⟨a, r, rfl⟩ : ∃ (a : Fin 1) (r : Fin 256), y = ix2 a r := ⟨y 0, y 1, eq_ix2 y⟩
  blk_point [iblk, V, hi]

theorem iblk3_eq (c : Dev nD) (t : Fin cfg0.N) :
    (iblk m c 3 t : Vec F S1x256 .f32) = m ((c : Thread nD τ).loc main_arg3) := by
  have hi : win0_3.index t = ![0, 0] := by
    revert t
    exact (by decide +kernel : ∀ t : Fin grid0.N, win0_3.index t = ![0, 0])
  funext y
  obtain ⟨a, r, rfl⟩ : ∃ (a : Fin 1) (r : Fin 256), y = ix2 a r := ⟨y 0, y 1, eq_ix2 y⟩
  blk_point [iblk, V, hi]

theorem iblk4_eq (c : Dev nD) (t : Fin cfg0.N) :
    (iblk m c 4 t : Vec F S256x256 .f32) = m ((c : Thread nD τ).loc main_arg4) := by
  have hi : win0_4.index t = ![0, 0] := by
    revert t
    exact (by decide +kernel : ∀ t : Fin grid0.N, win0_4.index t = ![0, 0])
  funext y
  obtain ⟨a, r, rfl⟩ : ∃ (a : Fin 256) (r : Fin 256), y = ix2 a r := ⟨y 0, y 1, eq_ix2 y⟩
  blk_point [iblk, V, hi]

/-- Batch `t` after the normalisation and the product. -/
def prod (z : Vec F S16x2048x256 .f32) (s : Vec F S8x256 .f32) (g b : Vec F S1x256 .f32) (w : Vec F S256x256 .f32) (t : Fin 16) :
    FVec F S2048x256 .f32 :=
  k0_pay4 (row s 0) (row s 1) (batch z t) g b w

/-- The words of batch `t`. -/
def words (z : Vec F S16x2048x256 .f32) (s : Vec F S8x256 .f32) (g b : Vec F S1x256 .f32) (w : Vec F S256x256 .f32) (t : Fin 16) :
    IVec S1x2048x128 32 :=
  k0_pay1 (k0_pay5 (row s 0) (row s 1) (batch z t) g b w) (k0_pay6 (row s 0) (row s 1) (batch z t) g b w)

/-- One row of the sums, as a load of a part reads it. -/
theorem ld_row0 (s : Vec F S8x256 .f32) (h) : View.ld s (Rect.unit (s := S8x256) ![0, 0] ![1, 256] h) = row s 0 := by
  funext y
  obtain ⟨a, r, rfl⟩ : ∃ (a : Fin 1) (r : Fin 256), y = ix2 a r := ⟨y 0, y 1, eq_ix2 y⟩
  obtain rfl : a = 0 := Subsingleton.elim _ _
  show s _ = s _
  congr 1
  funext a
  apply Fin.ext
  match a with
  | 0 => rfl
  | 1 => show 0 + 1 * r.val = r.val; omega

theorem ld_row1 (s : Vec F S8x256 .f32) (h) : View.ld s (Rect.unit (s := S8x256) ![1, 0] ![1, 256] h) = row s 1 := by
  funext y
  obtain ⟨a, r, rfl⟩ : ∃ (a : Fin 1) (r : Fin 256), y = ix2 a r := ⟨y 0, y 1, eq_ix2 y⟩
  obtain rfl : a = 0 := Subsingleton.elim _ _
  show s _ = s _
  congr 1
  funext a
  apply Fin.ext
  match a with
  | 0 => rfl
  | 1 => show 0 + 1 * r.val = r.val; omega

/-- The table of the words. -/
def tableOf (z : Vec F S16x2048x256 .f32) (s : Vec F S8x256 .f32) (g b : Vec F S1x256 .f32) (w : Vec F S256x256 .f32) : IVec S16x2048x128 32 :=
  fun i => words z s g b w (i 0) (ix3 0 (i 1) (i 2))

/-- The sums of the first `n` batches, added in order to zero. -/
def chain (z : Vec F S16x2048x256 .f32) (s : Vec F S8x256 .f32) (g b : Vec F S1x256 .f32) (w : Vec F S256x256 .f32) : ℕ → FVec F S8x256 .f32
  | 0 => k0_pay2
  | n + 1 => k0_pay3 (prod z s g b w ⟨n % 16, Nat.mod_lt _ (by decide)⟩) (chain z s g b w n)

/-- What point `t` leaves in the table's buffer. -/
theorem after5 (c : Dev nD) (t : Fin cfg0.N) : (dats m 0 c).after 5 t
    = words (m ((c : Thread nD τ).loc main_arg0)) (m ((c : Thread nD τ).loc main_arg1)) (m ((c : Thread nD τ).loc main_arg2))
        (m ((c : Thread nD τ).loc main_arg3)) (m ((c : Thread nD τ).loc main_arg4)) ⟨t.val, lt_of_lt_of_eq t.isLt N_0⟩ := by
  rw [after0_5]
  by_cases h : t.val % 16 = 0
  · rw [outsAt0_A m c t h]
    frame_out
    rw [ld_row0, ld_row1, iblk0_eq, iblk1_eq, iblk2_eq, iblk3_eq, iblk4_eq]
    rfl
  · rw [outsAt0_B m c t h]
    frame_out
    rw [ld_row0, ld_row1, iblk0_eq, iblk1_eq, iblk2_eq, iblk3_eq, iblk4_eq]
    rfl

/-- The result array of the table. -/
theorem final_t (c : Dev nD) : (dats m 0 c).arrAt 5 cfg0.N
    = tableOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after5]
  obtain ⟨a, r, l, rfl⟩ : ∃ (a : Fin 1) (r : Fin 2048) (l : Fin 128), y = ix3 a r l := ⟨y 0, y 1, y 2, eq_ix3 y⟩
  obtain rfl : a = 0 := Subsingleton.elim _ _
  have ei : ((View.whole main_v0_0).slice (win0_5.rect t)).emb (ix3 0 r l) = (ix3 (⟨t.val, lt_of_lt_of_eq t.isLt N_0⟩ : Fin 16) r l : S16x2048x128.Idx) := by
    funext a
    apply Fin.ext
    match a with
    | 0 => blk_simp [idx5 t]; simp
    | 1 => blk_simp [idx5 t]
    | 2 => blk_simp [idx5 t]
  rw [ei]
  rfl

/-- What the sums' buffer holds after point `n`. -/
theorem outs_eq (c : Dev nD) : ∀ (n : ℕ) (h : n < cfg0.N), (outsAt0 m c n h).2
    = chain (m ((c : Thread nD τ).loc main_arg0)) (m ((c : Thread nD τ).loc main_arg1)) (m ((c : Thread nD τ).loc main_arg2))
        (m ((c : Thread nD τ).loc main_arg3)) (m ((c : Thread nD τ).loc main_arg4)) (n + 1)
  | 0, h => by
    rw [outsAt0_A m c ⟨0, h⟩ rfl]
    frame_out
    rw [ld_row0, ld_row1, iblk0_eq, iblk1_eq, iblk2_eq, iblk3_eq, iblk4_eq]
    rfl
  | n + 1, h => by
    have hN : n + 1 < 16 := lt_of_lt_of_eq h N_0
    have e : (⟨n + 1, hN⟩ : Fin 16) = ⟨(n + 1) % 16, Nat.mod_lt _ (by decide)⟩ := Fin.ext (Nat.mod_eq_of_lt hN).symm
    rw [outsAt0_B m c ⟨n + 1, h⟩ (by dsimp only; omega)]
    frame_out
    rw [ld_row0, ld_row1, iblk0_eq, iblk1_eq, iblk2_eq, iblk3_eq, iblk4_eq]
    show k0_pay3 (prod _ _ _ _ _ ⟨n + 1, hN⟩) (outsAt0 m c n _).2 = k0_pay3 _ (chain _ _ _ _ _ (n + 1))
    rw [outs_eq c n, e]

/-- The result array of the sums. -/
theorem final_st (c : Dev nD) : (dats m 0 c).arrAt 6 cfg0.N
    = chain (m ((c : Thread nD τ).loc main_arg0)) (m ((c : Thread nD τ).loc main_arg1)) (m ((c : Thread nD τ).loc main_arg2))
        (m ((c : Thread nD τ).loc main_arg3)) (m ((c : Thread nD τ).loc main_arg4)) 16 := by
  refine (dats m 0 c).arrAt_eq_of_after_last 6 t0_15 (by decide +kernel) _ fun j => ?_
  blk_simp
  rw [after0_6, outs_eq]
  rfl

end Cert.Bn.Value
namespace Cert.BnReference.Value

open Cert.BnReference Cert.BnReference.Gen
open Idealize.ShloMosaic Idealize.ShloMosaic.TcCoe Idealize.SL.Sem
open Idealize.ShloMosaic.Pipeline (Dat)

variable {F : FTy → Type} [BitOps F]
variable (m : (ℓ : Loc nD τ sig) → Buf (Elt F) ℓ) (ρ : Dev nD → PrngReg)

/-- The two programs' normalisation and product are one term. -/
theorem prod_eq (v0 v3 : Vec F S1x256 .f32) (z : Vec F S1x2048x256 .f32) (g b : Vec F S1x256 .f32) (w : Vec F S256x256 .f32) :
    k0_pay5 (k0_pay1 v0) (k0_pay2 v0 v3) z g b w = Cert.Bn.Gen.k0_pay4 v0 v3 z g b w := rfl

/-- The two programs add the same sums. -/
theorem sums_eq (acc : FVec F S8x256 .f32) (p : FVec F S2048x256 .f32) : k0_pay4 acc p = Cert.Bn.Gen.k0_pay3 p acc := by
  unfold k0_pay4 Cert.Bn.Gen.k0_pay3
  dsimp only
  rw [shapeCast_self]

/-- The sign bit carried over the whole word. -/
theorem signs (x : BitVec 32) : x.sshiftRight 31 = if x.msb then 0xFFFFFFFF#32 else 0#32 := by
  apply BitVec.eq_of_getLsbD_eq
  intro i hi
  have h0 : (0#32 : BitVec 32).getLsbD i = false := BitVec.getLsbD_zero
  have h1 : (0xFFFFFFFF#32 : BitVec 32).getLsbD i = true :=
    (by decide : ∀ j : Fin 32, (0xFFFFFFFF#32 : BitVec 32).getLsbD j.val = true) ⟨i, hi⟩
  have h31 : (if 31 + i < 32 then x.getLsbD (31 + i) else x.msb) = x.msb := by
    by_cases h : i = 0
    · subst h
      rw [if_pos (by omega), BitVec.msb_eq_getLsbD_last]
    · rw [if_neg (by omega)]
  rw [BitVec.getLsbD_sshiftRight, h31]
  cases x.msb
  · rw [if_neg (by decide), h0]
    simp
  · rw [if_pos rfl, h1]
    simp [hi]

/-- The key of a word: its complement if it is negative, else with the sign bit flipped. -/
theorem key_eq (x : BitVec 32) :
    Scalar.select (IntOp.cmpi .slt x 0#32) (IntOp.xori x 4294967295#32) (IntOp.xori x 2147483648#32)
      = IntOp.xori x (IntOp.ori (IntOp.shrsi .vector x 31#32) 2147483648#32) := by
  have e : IntOp.shrsi .vector x 31#32 = x.sshiftRight 31 := rfl
  rw [e, signs]
  show (if BitVec.ofBool (x.slt 0#32) = 1 then x ^^^ 4294967295#32 else x ^^^ 2147483648#32) = x ^^^ ((if x.msb then 0xFFFFFFFF#32 else 0#32) ||| 2147483648#32)
  rw [BitVec.slt_zero_eq_msb]
  cases x.msb <;> rfl

/-- The upper half of a word, shifted down and back up or masked. -/
theorem upper_eq (x : BitVec 32) :
    IntOp.shli .vector (IntOp.shrui .vector x 16#32) 16#32 = IntOp.andi x 4294901760#32 := by
  show (x >>> 16) <<< 16 = x &&& 4294901760#32
  apply BitVec.eq_of_getLsbD_eq
  intro i hi
  rw [BitVec.getLsbD_and, BitVec.getLsbD_shiftLeft, BitVec.getLsbD_ushiftRight]
  by_cases h : i < 16
  · have e : (4294901760#32 : BitVec 32).getLsbD i = false :=
      (by decide : ∀ j : Fin 16, (4294901760#32 : BitVec 32).getLsbD j.val = false) ⟨i, h⟩
    rw [e]
    simp [h]
  · have e : (4294901760#32 : BitVec 32).getLsbD i = true :=
      (by decide : ∀ j : Fin 32, ¬ j.val < 16 → (4294901760#32 : BitVec 32).getLsbD j.val = true) ⟨i, hi⟩ h
    rw [e, show 16 + (i - 16) = i by omega]
    simp [h, hi]

/-- The two programs pack the same words. -/
theorem words_eq (v0 v3 : Vec F S1x256 .f32) (z : Vec F S1x2048x256 .f32) (g b : Vec F S1x256 .f32) (w : Vec F S256x256 .f32) :
    k0_pay6 (k0_pay1 v0) (k0_pay2 v0 v3) z g b w
      = Cert.Bn.Gen.k0_pay1 (Cert.Bn.Gen.k0_pay5 v0 v3 z g b w) (Cert.Bn.Gen.k0_pay6 v0 v3 z g b w) := by
  unfold k0_pay6 Cert.Bn.Gen.k0_pay1 Cert.Bn.Gen.k0_pay6 Cert.Bn.Gen.k0_pay5
  rw [prod_eq]
  generalize Cert.Bn.Gen.k0_pay4 v0 v3 z g b w = p
  dsimp only
  generalize bitcastToInt (extf .f32 (truncf .bf16 p bitsLt_bf16_f32) bitsLt_bf16_f32) = q
  funext y
  obtain ⟨a, r, l, rfl⟩ : ∃ (a : Fin 1) (r : Fin 2048) (l : Fin 128), y = ix3 a r l := ⟨y 0, y 1, y 2, eq_ix3 y⟩
  obtain rfl : a = 0 := Subsingleton.elim _ _
  pointwise
  rw [key_eq, key_eq, upper_eq]

/-- Batch `k` of the features, as the loop's load reads it. -/
theorem ld_batch (x : Vec F S16x2048x256 .f32) (k : Fin k0_t1_loop.trips) (h) :
    View.ld x (Rect.unit (s := S16x2048x256) (k0_off1 k) ![1, 2048, 256] h) = Cert.Bn.Value.batch x ⟨k.val, lt_of_lt_of_le k.isLt k0_t1_abs.2.1⟩ := by
  funext y
  refine View.ld_unit_apply_of x _ _ h y (ix3 ⟨k.val, lt_of_lt_of_le k.isLt k0_t1_abs.2.1⟩ (y 1) (y 2)) fun a => ?_
  refine Eq.trans ?_ (congrArg (· + _) (congrFun (k0_off1_eq k) a).symm)
  obtain ⟨a', r, l, rfl⟩ : ∃ (a : Fin 1) (r : Fin 2048) (l : Fin 256), y = ix3 a r l := ⟨y 0, y 1, y 2, eq_ix3 y⟩
  obtain rfl : a' = 0 := Subsingleton.elim _ _
  match a with
  | 0 => rfl
  | 1 => show r.val = 0 + r.val; omega
  | 2 => show l.val = 0 + l.val; omega

variable (c : Dev nD) (arg0 : Memref sig .tc .vmem S16x2048x256 .f32) (harg0 : arg0.IsWhole) (arg1 : Memref sig .tc .vmem S8x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S16x2048x128 .i32) (harg5 : arg5.IsWhole) (arg6 : Memref sig .tc .vmem S8x256 .f32) (harg6 : arg6.IsWhole) (v0 v3 : Vec F S1x256 .f32)
  (x0 : Vec F S16x2048x256 .f32) (x2 x3 : Vec F S1x256 .f32) (x4 : Vec F S256x256 .f32)

/-- What a trip carries on: the sums so far and those of its batch. -/
theorem trip_R (k : Fin k0_t1_loop.trips) (acc : FVec F S8x256 .f32) :
    tripR_k0_t1 Variants.none c none arg0 harg0 arg1 harg1 arg2 harg2 arg3 harg3 arg4 harg4 arg5 harg5 arg6 harg6 v0 v3 (harg0.unread x0) (harg2.unread x2) (harg3.unread x3) (harg4.unread x4) k acc
      = Cert.Bn.Gen.k0_pay3 (Cert.Bn.Gen.k0_pay4 v0 v3 (Cert.Bn.Value.batch x0 ⟨k.val, lt_of_lt_of_le k.isLt k0_t1_abs.2.1⟩) x2 x3 x4) acc := by
  unfold tripR_k0_t1 trip_k0_t1
  dsimp only
  sl_unfold_words
  simp (disch := decide) only [View.readAt_eq_ld, Memref.IsWhole.read_unread, View.ld_unit_lit']
  rw [prod_eq, sums_eq]
  exact congrArg (fun z => Cert.Bn.Gen.k0_pay3 (Cert.Bn.Gen.k0_pay4 v0 v3 z x2 x3 x4) acc) (ld_batch x0 k _)

/-- What a trip writes: the words of its batch. -/
theorem trip_L (k : Fin k0_t1_loop.trips) (acc : FVec F S8x256 .f32) :
    tripL_k0_t1 Variants.none c none arg0 harg0 arg1 harg1 arg2 harg2 arg3 harg3 arg4 harg4 arg5 harg5 arg6 harg6 v0 v3 (harg0.unread x0) (harg2.unread x2) (harg3.unread x3) (harg4.unread x4) k acc
      = [⟨Rect.unit (s := S16x2048x128) (k0_off2 k) S1x2048x128.size (k0_off2_inb k), Cert.Bn.Gen.k0_pay1 (Cert.Bn.Gen.k0_pay5 v0 v3 (Cert.Bn.Value.batch x0 ⟨k.val, lt_of_lt_of_le k.isLt k0_t1_abs.2.1⟩) x2 x3 x4)
          (Cert.Bn.Gen.k0_pay6 v0 v3 (Cert.Bn.Value.batch x0 ⟨k.val, lt_of_lt_of_le k.isLt k0_t1_abs.2.1⟩) x2 x3 x4)⟩] := by
  unfold tripL_k0_t1 trip_k0_t1
  dsimp only
  sl_unfold_words
  simp (disch := decide) only [View.readAt_eq_ld, Memref.IsWhole.read_unread, View.ld_unit_lit']
  rw [words_eq]
  exact congrArg (fun z => [(⟨Rect.unit (s := S16x2048x128) (k0_off2 k) S1x2048x128.size (k0_off2_inb k), Cert.Bn.Gen.k0_pay1 (Cert.Bn.Gen.k0_pay5 v0 v3 z x2 x3 x4)
    (Cert.Bn.Gen.k0_pay6 v0 v3 z x2 x3 x4)⟩ : View.Piece (Elt F) S16x2048x128 .i32)]) (ld_batch x0 k _)

/-- The carried sums before trip `n`, and the words written so far. -/
theorem st_eq (x1 : Vec F S8x256 .f32) (h0 : v0 = Cert.Bn.Value.row x1 0) (h3 : v3 = Cert.Bn.Value.row x1 1) : ∀ (n : ℕ) (h : n ≤ k0_t1_loop.trips),
    (st_k0_t1 Variants.none c none arg0 harg0 arg1 harg1 arg2 harg2 arg3 harg3 arg4 harg4 arg5 harg5 arg6 harg6 v0 v3 (harg0.unread x0) (harg2.unread x2) (harg3.unread x3) (harg4.unread x4) k0_pay3 n).1 = Cert.Bn.Value.chain x0 x1 x2 x3 x4 n
    ∧ ∀ (i : S16x2048x128.Idx), (i 0).val < n → View.canon (st_k0_t1 Variants.none c none arg0 harg0 arg1 harg1 arg2 harg2 arg3 harg3 arg4 harg4 arg5 harg5 arg6 harg6 v0 v3 (harg0.unread x0) (harg2.unread x2) (harg3.unread x3) (harg4.unread x4) k0_pay3 n).2 i = Cert.Bn.Value.tableOf x0 x1 x2 x3 x4 i
  | 0, h => ⟨rfl, fun i hi => absurd hi (Nat.not_lt_zero _)⟩
  | n + 1, h => by
    have hn : n < k0_t1_loop.trips := h
    have hm : n < 16 := lt_of_lt_of_le hn k0_t1_abs.2.1
    obtain ⟨e1, e2⟩ := st_eq x1 h0 h3 n (Nat.le_of_lt hn)
    have e := st_k0_t1_succ Variants.none c none arg0 harg0 arg1 harg1 arg2 harg2 arg3 harg3 arg4 harg4 arg5 harg5 arg6 harg6 v0 v3 (harg0.unread x0) (harg2.unread x2) (harg3.unread x3) (harg4.unread x4) k0_pay3 ⟨n, hn⟩
    dsimp only at e
    rw [e, trip_R, trip_L, e1]
    subst h0 h3
    constructor
    · show Cert.Bn.Gen.k0_pay3 (Cert.Bn.Value.prod x0 x1 x2 x3 x4 ⟨n, hm⟩) _ = Cert.Bn.Gen.k0_pay3 (Cert.Bn.Value.prod x0 x1 x2 x3 x4 ⟨n % 16, _⟩) _
      congr 2
      exact Fin.ext (Nat.mod_eq_of_lt hm).symm
    · intro i hi
      rw [List.singleton_append]
      by_cases hin : (i 0).val = n
      · have ei : i = (Rect.unit (s := S16x2048x128) (k0_off2 ⟨n, hn⟩) S1x2048x128.size (k0_off2_inb ⟨n, hn⟩)).emb (ix3 0 (i 1) (i 2)) := by
          funext a
          apply Fin.ext
          rw [ValueKit.rect_emb_unit_val]
          refine Eq.trans ?_ (congrArg (· + _) (congrFun (k0_off2_eq ⟨n, hn⟩) a).symm)
          match a with
          | 0 => exact hin
          | 1 => show (i 1).val = 0 + (i 1).val; omega
          | 2 => show (i 2).val = 0 + (i 2).val; omega
        have e0 : i 0 = (⟨n, hm⟩ : Fin 16) := Fin.ext hin
        refine (congrArg _ ei).trans ((View.canon_cons_emb _ _ _ _).trans ?_)
        show Cert.Bn.Value.words x0 x1 x2 x3 x4 ⟨n, hm⟩ (ix3 0 (i 1) (i 2)) = Cert.Bn.Value.words x0 x1 x2 x3 x4 (i 0) (ix3 0 (i 1) (i 2))
        rw [e0]
      · rw [View.canon_cons_of_not_mem]
        · exact e2 i (by omega)
        · dsimp only
          rw [Rect.mem_set_unit]
          intro hh
          have := hh 0
          have h2 : n ≤ (i 0).val := le_of_eq_of_le (congrFun (k0_off2_eq ⟨n, hn⟩) 0).symm this.1
          have h3 : (i 0).val < n + 1 := hi
          omega

/-- The reference reads its arguments whole. -/
theorem iblk0_eq (c : Dev nD) (t : Fin cfg0.N) :
    (iblk m c 0 t : Vec F S16x2048x256 .f32) = m ((c : Thread nD τ).loc main_arg0) := by
  have hi : win0_0.index t = ![0, 0, 0] := by
    revert t
    exact (by decide +kernel : ∀ t : Fin grid0.N, win0_0.index t = ![0, 0, 0])
  funext y
  obtain ⟨a, r, l, rfl⟩ : ∃ (a : Fin 16) (r : Fin 2048) (l : Fin 256), y = ix3 a r l := ⟨y 0, y 1, y 2, eq_ix3 y⟩
  blk_point [iblk, V, hi]

theorem iblk1_eq (c : Dev nD) (t : Fin cfg0.N) :
    (iblk m c 1 t : Vec F S8x256 .f32) = m ((c : Thread nD τ).loc main_arg1) := by
  have hi : win0_1.index t = ![0, 0] := by
    revert t
    exact (by decide +kernel : ∀ t : Fin grid0.N, win0_1.index t = ![0, 0])
  funext y
  obtain ⟨a, r, rfl⟩ : ∃ (a : Fin 8) (r : Fin 256), y = ix2 a r := ⟨y 0, y 1, eq_ix2 y⟩
  blk_point [iblk, V, hi]

theorem iblk2_eq (c : Dev nD) (t : Fin cfg0.N) :
    (iblk m c 2 t : Vec F S1x256 .f32) = m ((c : Thread nD τ).loc main_arg2) := by
  have hi : win0_2.index t = ![0, 0] := by
    revert t
    exact (by decide +kernel : ∀ t : Fin grid0.N, win0_2.index t = ![0, 0])
  funext y
  obtain ⟨a, r, rfl⟩ : ∃ (a : Fin 1) (r : Fin 256), y = ix2 a r := ⟨y 0, y 1, eq_ix2 y⟩
  blk_point [iblk, V, hi]

theorem iblk3_eq (c : Dev nD) (t : Fin cfg0.N) :
    (iblk m c 3 t : Vec F S1x256 .f32) = m ((c : Thread nD τ).loc main_arg3) := by
  have hi : win0_3.index t = ![0, 0] := by
    revert t
    exact (by decide +kernel : ∀ t : Fin grid0.N, win0_3.index t = ![0, 0])
  funext y
  obtain ⟨a, r, rfl⟩ : ∃ (a : Fin 1) (r : Fin 256), y = ix2 a r := ⟨y 0, y 1, eq_ix2 y⟩
  blk_point [iblk, V, hi]

theorem iblk4_eq (c : Dev nD) (t : Fin cfg0.N) :
    (iblk m c 4 t : Vec F S256x256 .f32) = m ((c : Thread nD τ).loc main_arg4) := by
  have hi : win0_4.index t = ![0, 0] := by
    revert t
    exact (by decide +kernel : ∀ t : Fin grid0.N, win0_4.index t = ![0, 0])
  funext y
  obtain ⟨a, r, rfl⟩ : ∃ (a : Fin 256) (r : Fin 256), y = ix2 a r := ⟨y 0, y 1, eq_ix2 y⟩
  blk_point [iblk, V, hi]

/-- What the reference's body leaves in the table's buffer, and in the sums'. -/
theorem after5 (c : Dev nD) (t : Fin cfg0.N) : (dats m 0 c).after 5 t
    = Cert.Bn.Value.tableOf (m ((c : Thread nD τ).loc main_arg0)) (m ((c : Thread nD τ).loc main_arg1)) (m ((c : Thread nD τ).loc main_arg2))
        (m ((c : Thread nD τ).loc main_arg3)) (m ((c : Thread nD τ).loc main_arg4)) := by
  rw [after0_5]
  unfold outsAt0
  frame_out
  rw [← iblk0_eq m c t, ← iblk1_eq m c t, ← iblk2_eq m c t, ← iblk3_eq m c t, ← iblk4_eq m c t]
  funext i
  exact (st_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _
    (iblk m c 0 t) (iblk m c 2 t) (iblk m c 3 t) (iblk m c 4 t) (iblk m c 1 t)
    ((congrArg (fun s => View.ld s _) ((hs0_1 t).read_unread _)).trans (Cert.Bn.Value.ld_row0 _ _))
    ((congrArg (fun s => View.ld s _) ((hs0_1 t).read_unread _)).trans (Cert.Bn.Value.ld_row1 _ _)) k0_t1_loop.trips le_rfl).2 i (i 0).isLt

theorem after6 (c : Dev nD) (t : Fin cfg0.N) : (dats m 0 c).after 6 t
    = Cert.Bn.Value.chain (m ((c : Thread nD τ).loc main_arg0)) (m ((c : Thread nD τ).loc main_arg1)) (m ((c : Thread nD τ).loc main_arg2))
        (m ((c : Thread nD τ).loc main_arg3)) (m ((c : Thread nD τ).loc main_arg4)) 16 := by
  rw [after0_6]
  unfold outsAt0
  frame_out
  rw [← iblk0_eq m c t, ← iblk1_eq m c t, ← iblk2_eq m c t, ← iblk3_eq m c t, ← iblk4_eq m c t]
  exact (st_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _
    (iblk m c 0 t) (iblk m c 2 t) (iblk m c 3 t) (iblk m c 4 t) (iblk m c 1 t)
    ((congrArg (fun s => View.ld s _) ((hs0_1 t).read_unread _)).trans (Cert.Bn.Value.ld_row0 _ _))
    ((congrArg (fun s => View.ld s _) ((hs0_1 t).read_unread _)).trans (Cert.Bn.Value.ld_row1 _ _)) k0_t1_loop.trips le_rfl).1

/-- The result array of the reference's table. -/
theorem final_t (c : Dev nD) : (dats m 0 c).arrAt 5 cfg0.N
    = Cert.Bn.Value.tableOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after5]

/-- The result array of the reference's sums. -/
theorem final_st (c : Dev nD) : (dats m 0 c).arrAt 6 cfg0.N
    = Cert.Bn.Value.chain (m ((c : Thread nD τ).loc main_arg0)) (m ((c : Thread nD τ).loc main_arg1)) (m ((c : Thread nD τ).loc main_arg2))
        (m ((c : Thread nD τ).loc main_arg3)) (m ((c : Thread nD τ).loc main_arg4)) 16 := by
  refine (dats m 0 c).arrAt_eq_of_after_last 6 t0_0 (by decide +kernel) _ fun j => ?_
  blk_simp
  rw [after6]

end Cert.BnReference.Value

namespace Cert.Bn.Value

open Idealize.ShloMosaic Idealize.ShloMosaic.TcCoe Idealize.SL.Sem

/-! ## The claims -/

theorem frame_kernel : Cert.quiescent_Bn := fun m ρ _ => Cert.Bn.Gen.frame m ρ
theorem frame_reference : Cert.quiescent_BnReference := fun m ρ _ => Cert.BnReference.Gen.frame m ρ

/-- The kernel's table and sums are the reference's, word by word. -/
theorem bitexact : Cert.bitexact_Bn_BnReference := by
  intro m ρ m' ρ' _ hagree
  refine ⟨fun c => tableOf (m ((c : Thread Cert.Bn.nD Cert.Bn.τ).loc Cert.Bn.main_arg0)) (m ((c : Thread Cert.Bn.nD Cert.Bn.τ).loc Cert.Bn.main_arg1)) (m ((c : Thread Cert.Bn.nD Cert.Bn.τ).loc Cert.Bn.main_arg2)) (m ((c : Thread Cert.Bn.nD Cert.Bn.τ).loc Cert.Bn.main_arg3)) (m ((c : Thread Cert.Bn.nD Cert.Bn.τ).loc Cert.Bn.main_arg4)),
    fun c => chain (m ((c : Thread Cert.Bn.nD Cert.Bn.τ).loc Cert.Bn.main_arg0)) (m ((c : Thread Cert.Bn.nD Cert.Bn.τ).loc Cert.Bn.main_arg1)) (m ((c : Thread Cert.Bn.nD Cert.Bn.τ).loc Cert.Bn.main_arg2)) (m ((c : Thread Cert.Bn.nD Cert.Bn.τ).loc Cert.Bn.main_arg3)) (m ((c : Thread Cert.Bn.nD Cert.Bn.τ).loc Cert.Bn.main_arg4)) 16, ?_, ?_⟩
  · refine (θ_run Cert.Bn.defs _ _).mono (fun r h c => ?_) (run_blocks (F := Bits) m ρ)
    exact ⟨(h c).1.trans (final_t m c), (h c).2.1.trans (final_st m c), (h c).2.2⟩
  · refine (θ_run Cert.BnReference.defs _ _).mono (fun r h c => ?_) (Cert.BnReference.Value.run_blocks (F := Bits) m' ρ')
    obtain ⟨e0, e1, e2, e3, e4⟩ := hagree c
    refine ⟨(h c).1.trans ((Cert.BnReference.Value.final_t m' c).trans ?_), (h c).2.1.trans ((Cert.BnReference.Value.final_st m' c).trans ?_), (h c).2.2⟩
    · rw [e0, e1, e2, e3, e4]
    · rw [e0, e1, e2, e3, e4]

end Cert.Bn.Value

end
-- ==== Proof.lean ====
/-
  The proof of `Cert.Claim` (proofs.«01_k».proof.Defs). The kernel's run is `Pool.run_main` (Proof/Pool/Launch.lean), the
  reference's run `Pool.Ref.run_main` with its value `Pool.Ref.res_eq` (Proof/Pool/Reference.lean), and the precondition is
  read by `Pool.ok_of_pre` (Proof/Pool/Pre.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pre
public import proofs.«01_k».proof.Proof.Gen.Pre_knn_pre
public import proofs.«01_k».proof.Proof.Gen.Bn.Value
public import proofs.«01_k».proof.Proof.Gen.BnReference
public import proofs.«01_k».proof.Proof.Gen.BnReference.Frame
public import proofs.«01_k».proof.Proof.Gen.BnReference.Value
public import proofs.«01_k».proof.Proof.Gen.Bn
public import proofs.«01_k».proof.Proof.Gen.Bn.Frame
public import proofs.«01_k».proof.Proof.Gen.KnnIdeal.Frame
public import proofs.«01_k».proof.Proof.Gen.Knn.Frame
public import proofs.«01_k».proof.Proof.Gen.KnnReferenceIdeal.Run
public import proofs.«01_k».proof.Proof.Gen.MmIdeal.Value
public import proofs.«01_k».proof.Proof.Gen.Mm.Frame
public import proofs.«01_k».proof.Proof.Gen.KnnIdeal
public import proofs.«01_k».proof.Proof.Gen.Knn
public import proofs.«01_k».proof.Proof.Gen.MmIdeal
public import proofs.«01_k».proof.Proof.Gen.Mm
public import proofs.«01_k».proof.Proof.Gen.MmReferenceIdeal.Run
public import proofs.«01_k».proof.Proof.Pool.Launch
public import proofs.«01_k».proof.Proof.Pool.Reference
public import proofs.«01_k».proof.Proof.Pool.Pre
public import proofs.«01_k».proof.Proof.Mm.Value
public import proofs.«01_k».proof.Proof.Knn.Value
public import proofs.«01_k».proof.Proof.Bn.Value
public import Idealize.ShloMosaic.Adequacy
public import Idealize.ShloMosaic.Init

@[expose] public section

noncomputable section

namespace Cert.Proof

open Idealize.ShloMosaic Idealize.SL.Sem

/-- The kernel as printed, at machine words: it terminates without a fault from any memory whose indices are in range, its
    arguments end unchanged and every semaphore counter ends at zero. The idealized program is the same text. -/
theorem frame_kernel : Cert.quiescent_Kernel := fun m ρ hpre =>
  (θ_run Cert.KernelIdeal.defs _ _).mono (fun _ h => ⟨fun c => ⟨(h.1 c).1, (h.1 c).2.1⟩, h.2⟩)
    (Pool.run_main (F := Bits) m ρ fun d => Pool.ok_of_pre _ _ (hpre d))

/-- The same of the idealized kernel. -/
theorem frame_ideal : Cert.quiescent_KernelIdeal := fun m ρ hpre =>
  (θ_run Cert.KernelIdeal.defs _ _).mono (fun _ h => ⟨fun c => ⟨(h.1 c).1, (h.1 c).2.1⟩, h.2⟩)
    (Pool.run_main (F := Ideal) m ρ fun d => Pool.ok_of_pre _ _ (hpre d))

/-- The reference terminates without a fault from any memory, its arguments unchanged; it declares no semaphore. -/
theorem frame_reference : Cert.quiescent_ReferenceIdeal := fun m ρ _ =>
  (θ_run Cert.ReferenceIdeal.defs _ _).mono (fun _ h => ⟨fun c => (h.1 c).2, h.2⟩) (Pool.Ref.run_main (F := Ideal) m ρ)

/-- The kernel and the reference, from memories with the same table and the same in-range indices, end with the same array. -/
theorem algebraic : Cert.algebraic_KernelIdeal_ReferenceIdeal := by
  intro m ρ m' ρ' hpre hagree
  have hok : Pool.PreOK m := fun d => Pool.ok_of_pre _ _ (hpre d)
  refine ⟨fun c => Pool.out0 m c,
    (θ_run Cert.KernelIdeal.defs _ _).mono (fun _ h c => ⟨(h.1 c).2.2, (h.1 c).1, (h.1 c).2.1⟩) (Pool.run_main (F := Ideal) m ρ hok),
    (θ_run Cert.ReferenceIdeal.defs _ _).mono (fun _ h c => ⟨(h.1 c).1.trans ?_, (h.1 c).2⟩) (Pool.Ref.run_main (F := Ideal) m' ρ')⟩
  obtain ⟨e0, e1⟩ := hagree c
  refine (Pool.Ref.res_eq m' c (fun z => ?_)).trans ?_
  · rw [e1]; exact hok c z
  · rw [e0, e1]

/-- `Cert.Claim` (Defs.lean). -/
theorem claim : Cert.Claim :=
  ⟨Cert.Kernel.Gen.facts, Cert.KernelIdeal.Gen.facts, Cert.ReferenceIdeal.Gen.facts, Cert.Knn.Gen.facts, Cert.KnnIdeal.Gen.facts,
    Cert.KnnReferenceIdeal.Gen.facts, Cert.Mm.Gen.facts, Cert.MmIdeal.Gen.facts, Cert.MmReferenceIdeal.Gen.facts, Cert.Bn.Gen.facts, Cert.BnReference.Gen.facts, Cert.Pre_pre.Gen.facts,
    Cert.Pre_knn_pre.Gen.facts,
    frame_kernel, frame_ideal, frame_reference,
    fun m ρ _ => (θ_run Cert.ReferenceIdeal.defs _ _).mono (fun _ h => ⟨fun c => (h.1 c).2, h.2⟩) (Pool.Ref.run_main (F := Ideal) m ρ),
    fun m ρ _ => Cert.Knn.Gen.frame m ρ, fun m ρ _ => Cert.KnnIdeal.Gen.frame m ρ, fun m ρ _ => Cert.KnnIdeal.Gen.frame m ρ,
    Cert.KnnIdeal.Value.frame_reference, fun m ρ _ => Cert.KnnIdeal.Value.frame_reference m ρ trivial,
    Cert.MmIdeal.Value.frame_kernel, Cert.MmIdeal.Value.frame_ideal, Cert.MmIdeal.Value.frame_reference,
    Cert.Bn.Value.frame_kernel, Cert.Bn.Value.frame_reference,
    trivial, algebraic, trivial, Cert.KnnIdeal.Value.algebraic, trivial, Cert.MmIdeal.Value.algebraic, Cert.Bn.Value.bitexact⟩

end Cert.Proof

end
